-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive_q [hPre_positive_q : Cert.Pre_positive_q.Facts] (m : (ℓ : Loc Cert.KernelIdeal.nD Cert.KernelIdeal.τ Cert.KernelIdeal.sig) → Buf (Elt Ideal) ℓ) : Prop :=
  ∀ c : Dev Cert.KernelIdeal.nD,
    (Cert.Pre_positive_q.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive_q [hPre_positive_q : Cert.Pre_positive_q.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive_q.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_positive_q [hKernelIdeal : Cert.KernelIdeal.Facts] [hPre_positive_q : Cert.Pre_positive_q.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive_q m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_positive_q [hReferenceIdeal : Cert.ReferenceIdeal.Facts] [hPre_positive_q : Cert.Pre_positive_q.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive_q m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "neg_tau" .f32 0xBD4CCCCD#32 ((-(20⁻¹) : ℝ) : EReal)
  ∧ IdealRules.named_const.Statement Cert.KernelIdeal.κ "exp2_scale" .f32 0x41E6D4CA#32 ((20 * (Real.log 2)⁻¹ : ℝ) : EReal)

def algebraic_KernelIdeal_ReferenceIdeal_pre_positive_q [hKernelIdeal : Cert.KernelIdeal.Facts] [hReferenceIdeal : Cert.ReferenceIdeal.Facts] [hPre_positive_q : Cert.Pre_positive_q.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive_q m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_positive_q : Cert.Pre_positive_q.Facts),
    quiescent_Kernel (hKernel := hKernel)
    ∧ quiescent_KernelIdeal (hKernelIdeal := hKernelIdeal)
    ∧ quiescent_KernelIdeal_pre_positive_q (hKernelIdeal := hKernelIdeal) (hPre_positive_q := hPre_positive_q)
    ∧ quiescent_ReferenceIdeal (hReferenceIdeal := hReferenceIdeal)
    ∧ quiescent_ReferenceIdeal_pre_positive_q (hReferenceIdeal := hReferenceIdeal) (hPre_positive_q := hPre_positive_q)
    ∧ preserves_Kernel_KernelIdeal
    ∧ algebraic_KernelIdeal_ReferenceIdeal_pre_positive_q (hKernelIdeal := hKernelIdeal) (hReferenceIdeal := hReferenceIdeal) (hPre_positive_q := hPre_positive_q)
-- ==== Pre_positive_q.lean ====
abbrev S24x1024x128 : Shape := ⟨3, ![24, 1024, 128]⟩
abbrev S24x1024x4 : Shape := ⟨3, ![24, 1024, 4]⟩
abbrev S24x1024 : Shape := ⟨2, ![24, 1024]⟩
abbrev S_ : Shape := ⟨0, ![]⟩

class Facts : Prop where
  bcast_S_S24x1024 : S_.BroadcastsInDim S24x1024 (![] : Fin 0 → Fin S24x1024.rank)
  reducesTo_S24x1024_S_d0_1 : S24x1024.ReducesTo [0, 1] S_
  h_S_ : 0 < S_.numel

variable [Facts]

def fn {F : FTy → Type} [FloatOps F] (main_arg0 : FVec F S24x1024x128 .fp8e4m3) (main_arg1 : FVec F S24x1024x4 .f32) (main_arg2 : FVec F S24x1024x128 .fp8e4m3) (main_arg3 : FVec F S24x1024x4 .f32) (main_arg4 : FVec F S24x1024 .f32) : IVec S_ 1 :=
  let main_cst : FVec F S_ .f32 := constant S_ .f32 0xFF800000#32
  let main_v0 : FVec F S24x1024 .f32 := broadcastInDim S24x1024 ![] bcast_S_S24x1024 main_cst
  let main_v1 : IVec S24x1024 1 := cmpf .ogt main_arg4 main_v0
  let main_c : IVec S_ 1 := constantI S_ 1 1#1
  let main_v2 : IVec S_ 1 := (fun x v => Host.reduce IntOp.andi x v reducesTo_S24x1024_S_d0_1 h_S_) main_v1 main_c
  main_v2
-- ==== Kernel.lean ====
abbrev S24x1024x128 : Shape := ⟨3, ![24, 1024, 128]⟩
abbrev S24x1024x4 : Shape := ⟨3, ![24, 1024, 4]⟩
abbrev S24x1024 : Shape := ⟨2, ![24, 1024]⟩
abbrev S24x4x1024 : Shape := ⟨3, ![24, 4, 1024]⟩
abbrev S24x1x1024 : Shape := ⟨3, ![24, 1, 1024]⟩
abbrev S1x1024x128 : Shape := ⟨3, ![1, 1024, 128]⟩
abbrev S1x4x1024 : Shape := ⟨3, ![1, 4, 1024]⟩
abbrev S1x1x1024 : Shape := ⟨3, ![1, 1, 1024]⟩
abbrev S1024x128 : Shape := ⟨2, ![1024, 128]⟩
abbrev S4x1024 : Shape := ⟨2, ![4, 1024]⟩
abbrev S128x1024 : Shape := ⟨2, ![128, 1024]⟩
abbrev S4x32x1024 : Shape := ⟨3, ![4, 32, 1024]⟩
abbrev S4x1x1024 : Shape := ⟨3, ![4, 1, 1024]⟩
abbrev S1x1024 : Shape := ⟨2, ![1, 1024]⟩
abbrev S16x1024 : Shape := ⟨2, ![16, 1024]⟩
abbrev S144x1024 : Shape := ⟨2, ![144, 1024]⟩
abbrev S1024x144 : Shape := ⟨2, ![1024, 144]⟩
abbrev S144x256 : Shape := ⟨2, ![144, 256]⟩
abbrev S1024x256 : Shape := ⟨2, ![1024, 256]⟩
abbrev S256 : Shape := ⟨1, ![256]⟩
abbrev S1x256 : Shape := ⟨2, ![1, 256]⟩
abbrev S256x256 : Shape := ⟨2, ![256, 256]⟩
abbrev S1x1x256 : Shape := ⟨3, ![1, 1, 256]⟩
abbrev S768x256 : Shape := ⟨2, ![768, 256]⟩
abbrev S128x256 : Shape := ⟨2, ![128, 256]⟩
abbrev S256x128 : Shape := ⟨2, ![256, 128]⟩
abbrev S1x256x128 : Shape := ⟨3, ![1, 256, 128]⟩
abbrev S512x256 : Shape := ⟨2, ![512, 256]⟩

abbrev nBuf : Space → Nat
  | .hbm => 11
  | .vmem => 16
  | .smem => 0
  | _ => 0

abbrev bufTy : (tb : Table) → Fin (tcTables nBuf tb) → BufTy
  | .hbm, ⟨0, _⟩ => ⟨S24x1024x128, .fp8e4m3⟩
  | .hbm, ⟨1, _⟩ => ⟨S24x1024x4, .f32⟩
  | .hbm, ⟨2, _⟩ => ⟨S24x1024x128, .fp8e4m3⟩
  | .hbm, ⟨3, _⟩ => ⟨S24x1024x4, .f32⟩
  | .hbm, ⟨4, _⟩ => ⟨S24x1024, .f32⟩
  | .hbm, ⟨5, _⟩ => ⟨S24x4x1024, .f32⟩
  | .hbm, ⟨6, _⟩ => ⟨S24x4x1024, .f32⟩
  | .hbm, ⟨7, _⟩ => ⟨S24x1x1024, .f32⟩
  | .hbm, ⟨8, _⟩ => ⟨S24x1x1024, .f32⟩
  | .hbm, ⟨9, _⟩ => ⟨S24x1024x128, .bf16⟩
  | .hbm, ⟨10, _⟩ => ⟨S24x1024x128, .bf16⟩
  | .local _ .vmem, ⟨0, _⟩ => ⟨S1x1024x128, .fp8e4m3⟩
  | .local _ .vmem, ⟨1, _⟩ => ⟨S1x1024x128, .fp8e4m3⟩
  | .local _ .vmem, ⟨2, _⟩ => ⟨S1x4x1024, .f32⟩
  | .local _ .vmem, ⟨3, _⟩ => ⟨S1x4x1024, .f32⟩
  | .local _ .vmem, ⟨4, _⟩ => ⟨S1x1024x128, .fp8e4m3⟩
  | .local _ .vmem, ⟨5, _⟩ => ⟨S1x1024x128, .fp8e4m3⟩
  | .local _ .vmem, ⟨6, _⟩ => ⟨S1x4x1024, .f32⟩
  | .local _ .vmem, ⟨7, _⟩ => ⟨S1x4x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024x128, .bf16⟩
  | .local _ .vmem, ⟨13, _⟩ => ⟨S1x1024x128, .bf16⟩
  | .local _ .vmem, ⟨14, _⟩ => ⟨S1x1024x128, .bf16⟩
  | .local _ .vmem, ⟨15, _⟩ => ⟨S1x1024x128, .bf16⟩
  | _, _ => ⟨S24x1024x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "exp2_scale" => some ((20 * (Real.log 2)⁻¹ : ℝ) : EReal)
  | "neg_tau" => some ((-(20⁻¹) : ℝ) : EReal)
  | _ => none
-- ==== ReferenceIdeal.lean ====
abbrev S24x1024x128 : Shape := ⟨3, ![24, 1024, 128]⟩
abbrev S24x1024x4 : Shape := ⟨3, ![24, 1024, 4]⟩
abbrev S24x1024 : Shape := ⟨2, ![24, 1024]⟩
abbrev S24x1024x4x32 : Shape := ⟨4, ![24, 1024, 4, 32]⟩
abbrev S24x1024x4x1 : Shape := ⟨4, ![24, 1024, 4, 1]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S24x1024x1024 : Shape := ⟨3, ![24, 1024, 1024]⟩
abbrev S_ : Shape := ⟨0, ![]⟩
abbrev S24x1x1024 : Shape := ⟨3, ![24, 1, 1024]⟩
abbrev S24x1024x1 : Shape := ⟨3, ![24, 1024, 1]⟩
abbrev S1024x2 : Shape := ⟨2, ![1024, 2]⟩

abbrev nBuf : Space → Nat
  | .hbm => 84
  | .vmem => 4
  | .smem => 0
  | _ => 0

abbrev bufTy : (tb : Table) → Fin (tcTables nBuf tb) → BufTy
  | .hbm, ⟨0, _⟩ => ⟨S24x1024x128, .fp8e4m3⟩
  | .hbm, ⟨1, _⟩ => ⟨S24x1024x4, .f32⟩
  | .hbm, ⟨2, _⟩ => ⟨S24x1024x128, .fp8e4m3⟩
  | .hbm, ⟨3, _⟩ => ⟨S24x1024x4, .f32⟩
  | .hbm, ⟨4, _⟩ => ⟨S24x1024, .f32⟩
  | .hbm, ⟨5, _⟩ => ⟨S24x1024x128, .bf16⟩
  | .hbm, ⟨6, _⟩ => ⟨S24x1024x128, .bf16⟩
  | .hbm, ⟨7, _⟩ => ⟨S24x1024x4x32, .bf16⟩
  | .hbm, ⟨8, _⟩ => ⟨S24x1024x4, .bf16⟩
  | .hbm, ⟨9, _⟩ => ⟨S24x1024x4x1, .bf16⟩
  | .hbm, ⟨10, _⟩ => ⟨S24x1024x4x32, .bf16⟩
  | .hbm, ⟨11, _⟩ => ⟨S24x1024x4x32, .bf16⟩
  | .hbm, ⟨12, _⟩ => ⟨S24x1024x128, .bf16⟩
  | .hbm, ⟨13, _⟩ => ⟨S24x1024x4x32, .bf16⟩
  | .hbm, ⟨14, _⟩ => ⟨S24x1024x4, .bf16⟩
  | .hbm, ⟨15, _⟩ => ⟨S24x1024x4x1, .bf16⟩
  | .hbm, ⟨16, _⟩ => ⟨S24x1024x4x32, .bf16⟩
  | .hbm, ⟨17, _⟩ => ⟨S24x1024x4x32, .bf16⟩
  | .hbm, ⟨18, _⟩ => ⟨S24x1024x128, .bf16⟩
  | .hbm, ⟨19, _⟩ => ⟨S1024, .i32⟩
  | .hbm, ⟨20, _⟩ => ⟨S1024x1, .i32⟩
  | .hbm, ⟨21, _⟩ => ⟨S1x1024, .i32⟩
  | .hbm, ⟨22, _⟩ => ⟨S1024x1024, .i32⟩
  | .hbm, ⟨23, _⟩ => ⟨S1024x1024, .i32⟩
  | .hbm, ⟨24, _⟩ => ⟨S1024x1024, .i1⟩
  | .hbm, ⟨25, _⟩ => ⟨S24x1024x1024, .f32⟩
  | .hbm, ⟨26, _⟩ => ⟨S_, .f32⟩
  | .hbm, ⟨27, _⟩ => ⟨S24x1024x1024, .f32⟩
  | .hbm, ⟨28, _⟩ => ⟨S24x1024x1024, .f32⟩
  | .hbm, ⟨29, _⟩ => ⟨S24x1x1024, .f32⟩
  | .hbm, ⟨30, _⟩ => ⟨S24x1024x1024, .f32⟩
  | .hbm, ⟨31, _⟩ => ⟨S24x1024x1024, .f32⟩
  | .hbm, ⟨32, _⟩ => ⟨S_, .f32⟩
  | .hbm, ⟨33, _⟩ => ⟨S24x1024, .f32⟩
  | .hbm, ⟨34, _⟩ => ⟨S24x1024x1, .f32⟩
  | .hbm, ⟨35, _⟩ => ⟨S24x1024x1024, .f32⟩
  | .hbm, ⟨36, _⟩ => ⟨S24x1024x1024, .f32⟩
  | .hbm, ⟨37, _⟩ => ⟨S24x1024x1024, .f32⟩
  | .hbm, ⟨38, _⟩ => ⟨S_, .f32⟩
  | .hbm, ⟨39, _⟩ => ⟨S24x1024, .f32⟩
  | .hbm, ⟨40, _⟩ => ⟨S24x1024, .f32⟩
  | .hbm, ⟨41, _⟩ => ⟨S24x1024, .f32⟩
  | .hbm, ⟨42, _⟩ => ⟨S1024, .i32⟩
  | .hbm, ⟨43, _⟩ => ⟨S1024, .i32⟩
  | .hbm, ⟨44, _⟩ => ⟨S_, .i32⟩
  | .hbm, ⟨45, _⟩ => ⟨S1024, .i32⟩
  | .hbm, ⟨46, _⟩ => ⟨S1024, .i1⟩
  | .hbm, ⟨47, _⟩ => ⟨S_, .i32⟩
  | .hbm, ⟨48, _⟩ => ⟨S1024, .i32⟩
  | .hbm, ⟨49, _⟩ => ⟨S1024, .i32⟩
  | .hbm, ⟨50, _⟩ => ⟨S1024, .i32⟩
  | .hbm, ⟨51, _⟩ => ⟨S_, .i32⟩
  | .hbm, ⟨52, _⟩ => ⟨S1024, .i32⟩
  | .hbm, ⟨53, _⟩ => ⟨S1024, .i1⟩
  | .hbm, ⟨54, _⟩ => ⟨S_, .i32⟩
  | .hbm, ⟨55, _⟩ => ⟨S1024, .i32⟩
  | .hbm, ⟨56, _⟩ => ⟨S1024, .i32⟩
  | .hbm, ⟨57, _⟩ => ⟨S1024, .i32⟩
  | .hbm, ⟨58, _⟩ => ⟨S1024x1, .i32⟩
  | .hbm, ⟨59, _⟩ => ⟨S1024x1, .i32⟩
  | .hbm, ⟨60, _⟩ => ⟨S1024x2, .i32⟩
  | .hbm, ⟨61, _⟩ => ⟨S24x1024, .f32⟩
  | .hbm, ⟨62, _⟩ => ⟨S24x1024, .f32⟩
  | .hbm, ⟨63, _⟩ => ⟨S24x1024x1, .f32⟩
  | .hbm, ⟨64, _⟩ => ⟨S24x1024x1024, .f32⟩
  | .hbm, ⟨65, _⟩ => ⟨S24x1024x1024, .f32⟩
  | .hbm, ⟨66, _⟩ => ⟨S24x1024x1024, .f32⟩
  | .hbm, ⟨67, _⟩ => ⟨S_, .f32⟩
  | .hbm, ⟨68, _⟩ => ⟨S24x1024x1024, .f32⟩
  | .hbm, ⟨69, _⟩ => ⟨S24x1024x1024, .f32⟩
  | .hbm, ⟨70, _⟩ => ⟨S24x1024x1024, .i1⟩
  | .hbm, ⟨71, _⟩ => ⟨S24x1024x1024, .f32⟩
  | .hbm, ⟨72, _⟩ => ⟨S24x1024x1024, .bf16⟩
  | .hbm, ⟨73, _⟩ => ⟨S24x1024x128, .f32⟩
  | .hbm, ⟨74, _⟩ => ⟨S_, .f32⟩
  | .hbm, ⟨75, _⟩ => ⟨S24x1024x128, .f32⟩
  | .hbm, ⟨76, _⟩ => ⟨S24x1024x128, .f32⟩
  | .hbm, ⟨77, _⟩ => ⟨S24x1024x128, .bf16⟩
  | .hbm, ⟨78, _⟩ => ⟨S24x1024x128, .f32⟩
  | .hbm, ⟨79, _⟩ => ⟨S_, .f32⟩
  | .hbm, ⟨80, _⟩ => ⟨S24x1024x128, .f32⟩
  | .hbm, ⟨81, _⟩ => ⟨S24x1024x128, .f32⟩
  | .hbm, ⟨82, _⟩ => ⟨S24x1024x128, .bf16⟩
  | .hbm, ⟨83, _⟩ => ⟨S24x1x1024, .f32⟩
  | .local _ .vmem, ⟨0, _⟩ => ⟨S24x1024x128, .fp8e4m3⟩
  | .local _ .vmem, ⟨1, _⟩ => ⟨S24x1024x128, .fp8e4m3⟩
  | .local _ .vmem, ⟨2, _⟩ => ⟨S24x1024x128, .bf16⟩
  | .local _ .vmem, ⟨3, _⟩ => ⟨S24x1024x128, .bf16⟩
  | _, _ => ⟨S24x1024x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_0 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_v0 : Ref sig .tc := ⟨.hbm, 42, rfl⟩
abbrev main_call0_v1 : Ref sig .tc := ⟨.hbm, 43, rfl⟩
abbrev main_call0_c : Ref sig .tc := ⟨.hbm, 44, rfl⟩
abbrev main_call0_v2 : Ref sig .tc := ⟨.hbm, 45, rfl⟩
abbrev main_call0_v3 : Ref sig .tc := ⟨.hbm, 46, rfl⟩
abbrev main_call0_c_0 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_c_1 : Ref sig .tc := ⟨.hbm, 51, rfl⟩
abbrev main_call0_v7 : Ref sig .tc := ⟨.hbm, 52, rfl⟩
abbrev main_call0_v8 : Ref sig .tc := ⟨.hbm, 53, rfl⟩
abbrev main_call0_c_2 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_v12 : Ref sig .tc := ⟨.hbm, 58, rfl⟩
abbrev main_call0_v13 : Ref sig .tc := ⟨.hbm, 59, rfl⟩
abbrev main_call0_v14 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_2 : Ref sig .tc := ⟨.hbm, 67, rfl⟩
abbrev main_v39 : Ref sig .tc := ⟨.hbm, 68, rfl⟩
abbrev main_v40 : Ref sig .tc := ⟨.hbm, 69, rfl⟩
abbrev main_call1_v0 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_3 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_4 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S24x1024x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x1024x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Consts.lean ====
/- The float constants the programs spell, as the extended reals their bit patterns denote, and the choice by an equality of
   row numbers. -/
module

public import Idealize.ShloMosaic.PureOps.Ideal

@[expose] public section

noncomputable section

namespace Cert.Consts

open Idealize.ShloMosaic

/-- `20.0`. -/
theorem twenty : Ideal.ofBits .f32 0x41A00000#32 = 20 := by
  have h : Ideal.ofBits .f32 0x41A00000#32 = ((20 : ℝ) : EReal) := by
    simp [Ideal.ofBits, Ideal.ieee, -EReal.coe_mul]; norm_num
  exact h

/-- `-inf`. -/
theorem neg_inf : Ideal.ofBits .f32 0xFF800000#32 = ⊥ := by
  simp [Ideal.ofBits, Ideal.ieee]

/-- A choice by the equality of two small numbers' words is a choice by the numbers' equality. -/
theorem select_eq {α : Type} (a b : ℕ) (ha : a < 1024) (hb : b < 1024) (x y : α) :
    Scalar.select (IntOp.cmpi .eq (BitVec.ofNat 32 a) (BitVec.ofNat 32 b)) x y = if a = b then x else y := by
  have h : (BitVec.ofNat 32 a = BitVec.ofNat 32 b) ↔ a = b := by
    rw [← BitVec.toNat_inj, BitVec.toNat_ofNat, BitVec.toNat_ofNat, Nat.mod_eq_of_lt (by omega), Nat.mod_eq_of_lt (by omega)]
  by_cases e : a = b
  · simp [Scalar.select, IntOp.cmpi, e]
  · have hf : (BitVec.ofNat 32 a == BitVec.ofNat 32 b) = false := beq_eq_false_iff_ne.mpr (mt h.mp e)
    simp [Scalar.select, IntOp.cmpi, e, hf]

end Cert.Consts

end
-- ==== Proof.Entry.lean ====
/- One batch entry of the argument arrays, as functions of row and coordinate: the form in which both programs' results are
   stated (RowMath.lean). -/
module

public import Idealize.ShloMosaic.Lib.Pointwise

@[expose] public section

noncomputable section

namespace Cert.Entry

open Idealize.ShloMosaic

/-- The embeddings of batch entry `b`: row `i`'s code at coordinate `d` times the scale of its group (32 coordinates to a
    group). -/
def emb (x : Vec Ideal ⟨3, ![24, 1024, 128]⟩ .fp8e4m3) (s : Vec Ideal ⟨3, ![24, 1024, 4]⟩ .f32) (b : Fin 24) (i : Fin 1024)
    (d : Fin 128) : EReal := x (ix3 b i d) * s (ix3 b i ⟨d / 32, by omega⟩)

/-- The log-frequencies of batch entry `b`. -/
def freq (q : Vec Ideal ⟨2, ![24, 1024]⟩ .f32) (b : Fin 24) (j : Fin 1024) : EReal := q (ix2 b j)

end Cert.Entry

end
-- ==== Proof.Precondition.lean ====
/- What the precondition says: no log-frequency is `-inf`. -/
module

public import proofs.«01_k».proof.Proof.Gen.Pre_positive_q
public import proofs.«01_k».proof.Proof.Consts
public import proofs.«01_k».proof.Proof.Entry
public import Idealize.ShloMosaic.Lib.ReduceAll

@[expose] public section

noncomputable section

namespace Cert.Precondition

open Cert.Pre_positive_q Cert.Pre_positive_q.Facts Idealize.ShloMosaic

instance : Subsingleton S_.Idx := ⟨fun a b => funext fun k => k.elim0⟩

/-- Where the precondition's program returns one, every log-frequency is above `-inf`. -/
theorem freq_ne_bot (x0 : FVec Ideal S24x1024x128 .fp8e4m3) (x1 : FVec Ideal S24x1024x4 .f32) (x2 : FVec Ideal S24x1024x128 .fp8e4m3)
    (x3 : FVec Ideal S24x1024x4 .f32) (q : FVec Ideal S24x1024 .f32) (h : fn x0 x1 x2 x3 q = fun _ => 1#1) (b : Fin 24) (j : Fin 1024) :
    Cert.Entry.freq q b j ≠ ⊥ := by
  have h1 := congrFun h (ix0)
  unfold fn at h1
  have h2 := Host.reduce_andi_all _ _ reducesTo_S24x1024_S_d0_1 h_S_ _ h1 (ix2 b j)
  have h3 : Ideal.cmp .ogt (q (ix2 b j)) (Ideal.ofBits .f32 0xFF800000#32) = 1#1 := by
    rw [← h2]
    pointwise
  rw [Cert.Consts.neg_inf] at h3
  intro e
  have e' : q (ix2 b j) = ⊥ := e
  rw [e'] at h3
  simp [Ideal.cmp] at h3

end Cert.Precondition

end
-- ==== Proof.RowMath.lean ====
/- The mathematics of one row of the in-batch softmax, on the extended reals and free of any program: the two ways of
   writing it that are to be shown equal. `U`, `V` are the scaled embeddings of one batch entry and `q` its
   log-frequencies; the reference scales the logits by 20 before it subtracts, takes `exp` and normalises in the
   exponent; the kernel leaves the logits unscaled, folds the 20 into a base-two exponent and multiplies by a reciprocal. -/
module

public import Idealize.ShloMosaic.PureOps.Ideal
public import Idealize.ShloMosaic.Lib.Pointwise

@[expose] public section

noncomputable section

namespace Cert.Row

open Idealize.ShloMosaic

/-! ## The reference's row -/

section Ref
variable (U V : Fin 1024 → Fin 128 → EReal) (q : Fin 1024 → EReal)

/-- The logit of row `i` at column `j`: the inner product times 20, less the column's log-frequency. -/
def logit (i j : Fin 1024) : EReal := (∑ d, U i d * V j d) * 20 - q j
/-- The greatest logit of row `i`. -/
def top (i : Fin 1024) : EReal := Finset.univ.fold max ⊥ fun j => logit U V q i j
/-- The sum over row `i` of the exponentials of the logits less the greatest. -/
def mass (i : Fin 1024) : EReal := ∑ j, Ideal.exp (logit U V q i j - top U V q i)
/-- The loss of row `i`: its log-sum-exp less its diagonal logit. -/
def loss (i : Fin 1024) : EReal := (top U V q i + Ideal.log (mass U V q i)) - logit U V q i i
/-- The softmax probability of column `j` in row `i`. -/
def prob (i j : Fin 1024) : EReal := Ideal.exp (logit U V q i j - top U V q i - Ideal.log (mass U V q i))
/-- The gradient by the logit: the probability, less one on the diagonal. -/
def grad (i j : Fin 1024) : EReal := if i = j then prob U V q i j - 1 else prob U V q i j
/-- The gradient by `U`. -/
def dU (i : Fin 1024) (d : Fin 128) : EReal := (∑ j, grad U V q i j * V j d) * 20
/-- The gradient by `V`. -/
def dV (j : Fin 1024) (d : Fin 128) : EReal := (∑ i, grad U V q i j * U i d) * 20
end Ref

/-! ## The kernel's row, given its unscaled logits `t` -/

section Ker
variable (t : Fin 1024 → EReal)

/-- `20 / ln 2`, which turns a base-two exponential into the exponential of 20 times its argument. -/
def c2 : EReal := ((20 * (Real.log 2)⁻¹ : ℝ) : EReal)
/-- The greatest unscaled logit. -/
def ktop : EReal := Finset.univ.fold max ⊥ t
/-- The exponential the kernel takes. -/
def kexp (j : Fin 1024) : EReal := Ideal.exp2 ((t j - ktop t) * c2)
/-- Its sum over the row. -/
def kmass : EReal := ∑ j, kexp t j
/-- The loss the kernel writes for row `i`. -/
def kloss (i : Fin 1024) : EReal := (ktop t - t i) * 20 + Ideal.log (kmass t)
/-- The probability the kernel forms. -/
def kprob (j : Fin 1024) : EReal := kexp t j * Ideal.div 1 (kmass t)
/-- The gradient by the logit the kernel forms for row `i`. -/
def kgrad (i j : Fin 1024) : EReal := if i = j then kprob t j - 1 else kprob t j
end Ker

/-- The unscaled logit: the inner product and the three parts `x`, `x - x`, `(x - x) - (x - x)` the kernel splits
    `x = q·(−1/20)` into, which it adds as three more coordinates of the product. -/
def klogit (U V : Fin 1024 → Fin 128 → EReal) (q : Fin 1024 → EReal) (i j : Fin 1024) : EReal :=
  (∑ d, V j d * U i d)
    + (q j * ((-(20⁻¹) : ℝ) : EReal)
      + ((q j * ((-(20⁻¹) : ℝ) : EReal) - q j * ((-(20⁻¹) : ℝ) : EReal))
        + ((q j * ((-(20⁻¹) : ℝ) : EReal) - q j * ((-(20⁻¹) : ℝ) : EReal))
          - (q j * ((-(20⁻¹) : ℝ) : EReal) - q j * ((-(20⁻¹) : ℝ) : EReal)))))

/-! ## Scaling by 20 -/

theorem twenty : (20 : EReal) = ((20 : ℝ) : EReal) := rfl

/-- Twenty distributes over a sum of extended reals. -/
theorem add_mul_20 (x y : EReal) : (x + y) * 20 = x * 20 + y * 20 :=
  EReal.right_distrib_of_nonneg_of_ne_top (by rw [twenty]; exact_mod_cast (by norm_num : (0:ℝ) ≤ 20))
    (by rw [twenty]; exact EReal.coe_ne_top _) x y

/-- And over a difference. -/
theorem sub_mul_20 (x y : EReal) : (x - y) * 20 = x * 20 - y * 20 := by
  rw [sub_eq_add_neg, add_mul_20, EReal.neg_mul, sub_eq_add_neg]

/-- The split parts of a number that is not `+∞` add up to it. -/
theorem split_sum (x : EReal) (hx : x ≠ ⊤) : x + ((x - x) + ((x - x) - (x - x))) = x := by
  induction x with
  | bot => simp
  | top => exact absurd rfl hx
  | coe r => norm_cast; simp

/-- A twentieth, negated, times 20 is the negation. -/
theorem neg_tau_mul (q : EReal) : q * ((-(20⁻¹) : ℝ) : EReal) * 20 = -q := by
  have h : (((-(20⁻¹) : ℝ) : EReal)) * 20 = -1 := by rw [twenty]; norm_cast; norm_num
  rw [mul_assoc, h, mul_neg, mul_one]

theorem neg_tau_ne_top (q : EReal) (hq : q ≠ ⊥) : q * ((-(20⁻¹) : ℝ) : EReal) ≠ ⊤ := by
  induction q with
  | bot => exact absurd rfl hq
  | top => rw [EReal.top_mul_coe_of_neg (by norm_num)]; simp
  | coe r => norm_cast; exact EReal.coe_ne_top _

/-- The reference's logit is 20 times the kernel's. -/
theorem logit_eq (U V : Fin 1024 → Fin 128 → EReal) (q : Fin 1024 → EReal) (hq : ∀ j, q j ≠ ⊥) (i j : Fin 1024) :
    logit U V q i j = klogit U V q i j * 20 := by
  unfold logit klogit
  rw [split_sum _ (neg_tau_ne_top _ (hq j)), add_mul_20, neg_tau_mul, sub_eq_add_neg]
  simp only [mul_comm (U i _)]

theorem mono_mul_20 : Monotone fun x : EReal => x * 20 := fun _ _ h =>
  mul_le_mul_of_nonneg_right h (by rw [twenty]; exact_mod_cast (by norm_num : (0:ℝ) ≤ 20))

/-- The greatest of 20 times the logits is 20 times the greatest. -/
theorem top_mul_20 (t : Fin 1024 → EReal) : (Finset.univ.fold max ⊥ fun j => t j * 20) = ktop t * 20 := by
  unfold ktop
  have hb : (⊥ : EReal) * 20 = ⊥ := by rw [twenty]; exact EReal.bot_mul_coe_of_pos (by norm_num)
  have := Finset.fold_hom (op := (max : EReal → EReal → EReal)) (op' := max) (s := Finset.univ) (b := (⊥ : EReal))
    (f := t) (m := fun x : EReal => x * 20) (fun x y => mono_mul_20.map_max)
  simpa only [hb] using this

/-! ## The exponentials -/

/-- A base-two exponential of `x · 20/ln 2` is the exponential of `20 x`, at the infinities too. -/
theorem exp2_c2 (x : EReal) : Ideal.exp2 (x * c2) = Ideal.exp (x * 20) := by
  have h2 : 0 < Real.log 2 := Real.log_pos (by norm_num)
  have hc : (0:ℝ) < 20 * (Real.log 2)⁻¹ := by positivity
  unfold c2
  induction x with
  | bot => rw [EReal.bot_mul_coe_of_pos hc, twenty, EReal.bot_mul_coe_of_pos (by norm_num)]; rfl
  | top => rw [EReal.top_mul_coe_of_pos hc, twenty, EReal.top_mul_coe_of_pos (by norm_num)]; rfl
  | coe r =>
    rw [twenty, ← EReal.coe_mul, ← EReal.coe_mul, Ideal.exp2_coe, Ideal.exp_coe]
    congr 1
    show (2:ℝ) ^ (r * (20 * (Real.log 2)⁻¹)) = _
    rw [Real.rpow_def_of_pos (by norm_num)]
    congr 1
    field_simp

theorem le_ktop (t : Fin 1024 → EReal) (j : Fin 1024) : t j ≤ ktop t :=
  (Finset.le_fold_max _).mpr (.inr ⟨j, Finset.mem_univ _, le_rfl⟩)

/-- An extended real less a greater one is at most zero. -/
theorem sub_nonpos' {x y : EReal} (h : x ≤ y) : x - y ≤ 0 := by
  induction y with
  | bot => simp [le_bot_iff.mp h]
  | top => simp
  | coe r =>
    induction x with
    | bot => simp
    | top => simp at h
    | coe s => norm_cast; have : s ≤ r := by exact_mod_cast h
               linarith

/-- The exponential of a number at most zero is a real of the unit interval. -/
theorem exp_real {z : EReal} (hz : z ≤ 0) : ∃ a : ℝ, Ideal.exp z = (a : EReal) ∧ 0 ≤ a ∧ (a = 0 → z = ⊥) := by
  induction z with
  | bot => exact ⟨0, rfl, le_rfl, fun _ => rfl⟩
  | top => simp at hz
  | coe r => exact ⟨Real.exp r, rfl, (Real.exp_pos r).le, fun h => absurd h (Real.exp_pos r).ne'⟩

theorem coe_sum {n : ℕ} (a : Fin n → ℝ) : (∑ j, (a j : EReal)) = ((∑ j, a j : ℝ) : EReal) := by
  induction n with
  | zero => simp
  | succ n ih => rw [Fin.sum_univ_succ, Fin.sum_univ_succ, ih, EReal.coe_add]

/-- Dividing by the sum and subtracting its logarithm in the exponent are the same, for exponents at most zero. -/
theorem normalise {n : ℕ} (z : Fin n → EReal) (hz : ∀ j, z j ≤ 0) (j : Fin n) :
    Ideal.exp (z j) * Ideal.div 1 (∑ k, Ideal.exp (z k)) = Ideal.exp (z j - Ideal.log (∑ k, Ideal.exp (z k))) := by
  choose a ha ha0 hab using fun k => exp_real (hz k)
  have hs : (∑ k, Ideal.exp (z k)) = ((∑ k, a k : ℝ) : EReal) := by
    rw [← coe_sum]; exact Finset.sum_congr rfl fun k _ => ha k
  rw [hs, ha j, Ideal.log_coe]
  have hr : a j ≤ ∑ k, a k := Finset.single_le_sum (fun k _ => ha0 k) (Finset.mem_univ j)
  generalize (∑ k, a k : ℝ) = r at hr
  by_cases h0 : r ≤ 0
  · have haj : a j = 0 := le_antisymm (hr.trans h0) (ha0 j)
    rw [if_pos h0, haj, hab j haj]; simp
  · have hr0 : 0 < r := not_le.mp h0
    rw [if_neg h0, Ideal.div_coe hr0.ne', one_mul]
    have hzj := hz j
    have haj := ha j
    have habj := hab j
    generalize z j = w at *
    induction w with
    | bot =>
      have : a j = 0 := by have := haj.symm; rw [Ideal.exp_bot] at this; exact_mod_cast this
      rw [this]; simp
    | top => simp at hzj
    | coe w =>
      rw [← haj, Ideal.exp_coe, ← EReal.coe_sub, Ideal.exp_coe, Real.exp_sub, Real.exp_log hr0, ← EReal.coe_mul, mul_one_div]

/-! ## The kernel's row is the reference's -/

section Eq
variable (U V : Fin 1024 → Fin 128 → EReal) (q : Fin 1024 → EReal) (hq : ∀ j, q j ≠ ⊥)
include hq

theorem top_eq (i : Fin 1024) : top U V q i = ktop (klogit U V q i) * 20 := by
  unfold top
  simp only [logit_eq U V q hq i]
  exact top_mul_20 _

theorem kexp_eq (i j : Fin 1024) : kexp (klogit U V q i) j = Ideal.exp (logit U V q i j - top U V q i) := by
  unfold kexp
  rw [exp2_c2, sub_mul_20, logit_eq U V q hq i j, top_eq U V q hq i]

theorem kmass_eq (i : Fin 1024) : kmass (klogit U V q i) = mass U V q i :=
  Finset.sum_congr rfl fun j _ => kexp_eq U V q hq i j

/-- The losses agree. -/
theorem kloss_eq (i : Fin 1024) : kloss (klogit U V q i) i = loss U V q i := by
  unfold kloss loss
  rw [kmass_eq U V q hq i, sub_mul_20, ← top_eq U V q hq i, ← logit_eq U V q hq i i, sub_eq_add_neg, sub_eq_add_neg,
    add_right_comm]

theorem logit_le_top (i j : Fin 1024) : logit U V q i j ≤ top U V q i :=
  (Finset.le_fold_max _).mpr (.inr ⟨j, Finset.mem_univ _, le_rfl⟩)

/-- The probabilities agree. -/
theorem kprob_eq (i j : Fin 1024) : kprob (klogit U V q i) j = prob U V q i j := by
  unfold kprob prob
  rw [kmass_eq U V q hq i, kexp_eq U V q hq i j]
  exact normalise (fun j => logit U V q i j - top U V q i) (fun j => sub_nonpos' (logit_le_top U V q hq i j)) j

/-- The gradients by the logits agree. -/
theorem kgrad_eq (i j : Fin 1024) : kgrad (klogit U V q i) i j = grad U V q i j := by
  unfold kgrad grad
  rw [kprob_eq U V q hq i j]

end Eq

/-! ## Sums over the four blocks of 256 rows -/

/-- The row `c` of the block of 256 rows that starts at row `o`. -/
abbrev row (o : ℕ) (ho : o + 256 ≤ 1024) (c : Fin 256) : Fin 1024 := ⟨o + c, by omega⟩

/-- A sum over 1024 rows, block by block, added in order onto zero. -/
theorem sum_blocks (f : Fin 1024 → EReal) :
    (((0 + ∑ c, f (row 0 (by omega) c)) + ∑ c, f (row 256 (by omega) c)) + ∑ c, f (row 512 (by omega) c))
      + ∑ c, f (row 768 (by omega) c) = ∑ i, f i := by
  have h := Fin.sum_univ_add (a := 768) (b := 256) (f : Fin (768 + 256) → EReal)
  have h' := Fin.sum_univ_add (a := 512) (b := 256) (fun i : Fin (512 + 256) => (f : Fin (768 + 256) → EReal) (Fin.castAdd 256 i))
  have h'' := Fin.sum_univ_add (a := 256) (b := 256)
    (fun i : Fin (256 + 256) => (f : Fin (768 + 256) → EReal) (Fin.castAdd 256 (Fin.castAdd 256 i : Fin (512 + 256))))
  refine Eq.trans ?_ h.symm
  refine congrArg₂ _ (Eq.trans ?_ h'.symm) rfl
  refine congrArg₂ _ (Eq.trans ?_ h''.symm) rfl
  refine congrArg₂ _ ?_ rfl
  rw [zero_add]
  refine Finset.sum_congr rfl fun c _ => congrArg f (Fin.ext ?_)
  simp

end Cert.Row

end
-- ==== Proof.Tile.lean ====
/- What one tile of the kernel's body computes, read at an index: a tile is 256 rows of the softmax, held as the columns
   of a `[1024, 256]` array of unscaled logits `T` (column `c` is row `o + c` of the batch entry, `o` the tile's offset).
   The four tiles run the same operations at four offsets; everything that does not name the offset is stated here once. -/
module

public import proofs.«01_k».proof.Proof.Gen.KernelIdeal.Frame
public import proofs.«01_k».proof.Proof.RowMath
public import proofs.«01_k».proof.Proof.Consts
public import Idealize.ShloMosaic.Lib.Pointwise

@[expose] public section

noncomputable section

namespace Cert.KernelIdeal.Tile

open Cert.KernelIdeal Cert.KernelIdeal.Gen Idealize.ShloMosaic Idealize.ShloMosaic.TcCoe Idealize.SL.Sem
open Cert.Row

/-! ## The scalars -/

/-- The kernel's constant `20/ln 2`. -/
theorem named_c2 : Named.named (F := Ideal) κ "exp2_scale" (φ := .f32) 0x41E6D4CA#32 = c2 :=
  IdealRules.named_const.ideal_named_scalar _ _ _ _ rfl

/-- The kernel's constant `−1/20`. -/
theorem named_tau : Named.named (F := Ideal) κ "neg_tau" (φ := .f32) 0xBD4CCCCD#32 = ((-(20⁻¹) : ℝ) : EReal) :=
  IdealRules.named_const.ideal_named_scalar _ _ _ _ rfl

/-- A sum over 256 rows of which all but row `c` are replaced by zero is row `c`. -/
theorem diag_sum (f : Fin 256 → EReal) (c : Fin 256) :
    ∑ x : Fin 256, Scalar.select (IntOp.cmpi .eq (BitVec.ofNat 32 (x : ℕ)) (BitVec.ofNat 32 (c : ℕ))) (f x) 0 = f c := by
  rw [Finset.sum_eq_single c]
  · rw [Cert.Consts.select_eq _ _ (by omega) (by omega), if_pos rfl]
  · intro b _ hb
    rw [Cert.Consts.select_eq _ _ (by omega) (by omega), if_neg (fun h => hb (Fin.ext h))]
  · intro h; exact absurd (Finset.mem_univ c) h

/-! ## A tile's softmax, from its logits -/

/-- The greatest logit of each column. -/
def tmax (T : FVec Ideal S1024x256 .f32) : FVec Ideal S1x256 .f32 :=
  shapeCast S1x256 (multiReduction .maximumf [0] S256 T 0xFF800000#32 reduces_S1024x256_S256 (.inl rfl) rfl) shapeCasts_S256_S1x256

/-- The base-two exponentials of the logits less the greatest, times `20/ln 2`. -/
def texp (T : FVec Ideal S1024x256 .f32) : FVec Ideal S1024x256 .f32 :=
  exp2 (mulf (subf T (broadcastTo S1024x256 (tmax T) broadcasts_S1x256_S1024x256))
    (broadcast S1024x256 (Named.named κ "exp2_scale" 0x41E6D4CA#32)))

/-- Their sums, column by column. -/
def tsum (T : FVec Ideal S1024x256 .f32) : FVec Ideal S1x256 .f32 :=
  shapeCast S1x256 (multiReduction .add [0] S256 (texp T) 0x00000000#32 reduces_S1024x256_S256 (.inl rfl) rfl) shapeCasts_S256_S1x256

section
variable (T : FVec Ideal S1024x256 .f32) (t : Fin 1024 → EReal) (c : Fin 256) (hT : ∀ j, T (ix2 j c) = t j)
include hT

theorem tmax_apply : tmax T (ix2 0 c) = ktop t := by
  pointwise [tmax]
  simp only [hT, Cert.Consts.neg_inf]
  rfl

theorem texp_apply (j : Fin 1024) : texp T (ix2 j c) = kexp t j := by
  unfold texp
  pointwise
  rw [tmax_apply T t c hT, hT, named_c2]
  rfl

theorem tsum_apply : tsum T (ix2 0 c) = kmass t := by
  unfold tsum
  pointwise
  exact Finset.sum_congr rfl fun j _ => texp_apply T t c hT j

end

/-! ## The scaled embeddings and the logits -/

/-- The embedding of row `i` at coordinate `d`: the code times its group's scale (32 coordinates to a group). -/
def emb (x : Vec Ideal S1x1024x128 .fp8e4m3) (s : Vec Ideal S1x4x1024 .f32) (i : Fin 1024) (d : Fin 128) : EReal :=
  x (ix3 0 i d) * s (ix3 0 ⟨d / 32, by omega⟩ i)

variable (x0 : Vec Ideal S1x1024x128 .fp8e4m3) (x1 : Vec Ideal S1x4x1024 .f32) (x2 : Vec Ideal S1x1024x128 .fp8e4m3)
  (x3 : Vec Ideal S1x4x1024 .f32) (x4 : Vec Ideal S1x1x1024 .f32)

/-- The transposed embeddings `û`. -/
theorem ut_apply (d : Fin 128) (i : Fin 1024) : k0_pay55 x0 x1 x2 x3 x4 (ix2 d i) = emb x0 x1 i d := by
  pointwise [k0_pay55, k0_pay2]
  rfl

/-- The transposed embeddings `v̂`. -/
theorem vt_apply (d : Fin 128) (i : Fin 1024) : k0_pay56 x0 x1 x2 x3 x4 (ix2 d i) = emb x2 x3 i d := by
  pointwise [k0_pay56, k0_pay3]
  rfl

/-- A column's log-frequency times `−1/20`. -/
def lq (j : Fin 1024) : EReal := x4 (ix3 0 0 j) * ((-(20⁻¹) : ℝ) : EReal)

/-- The augmented `v̂` up to coordinate 128 is `v̂`. -/
theorem va_lo (j : Fin 1024) (d : Fin 128) :
    k0_pay62 x0 x1 x2 x3 x4 (ix2 j (Fin.castAdd 16 d)) = emb x2 x3 j d := by
  rw [← vt_apply x0 x1 x2 x3 x4]
  unfold k0_pay62
  generalize k0_pay56 x0 x1 x2 x3 x4 = w
  pointwise [k0_pay12]
  rw [dif_pos (by simp)]
  rfl

/-- Past it the augmented `v̂` holds the three parts of the scaled log-frequency and zeros. -/
theorem va_hi (j : Fin 1024) (k : Fin 16) :
    k0_pay62 x0 x1 x2 x3 x4 (ix2 j (Fin.natAdd 128 k))
      = if (k : ℕ) = 0 then lq x4 j else if (k : ℕ) = 1 then lq x4 j - lq x4 j
        else if (k : ℕ) = 2 then lq x4 j - lq x4 j - (lq x4 j - lq x4 j) else 0 := by
  unfold k0_pay62
  generalize k0_pay56 x0 x1 x2 x3 x4 = w
  pointwise [k0_pay54, k0_pay57, k0_pay58, k0_pay59, k0_pay60, k0_pay61, k0_pay12, k0_pay4, k0_pay5, k0_pay6,
    k0_pay7, k0_pay8, k0_pay9, k0_pay10, k0_pay11]
  rw [dif_neg (by simp)]
  simp only [Fin.val_natAdd, Nat.add_sub_cancel_left, Cert.Consts.select_eq (k : ℕ) 0 (by omega) (by omega),
    Cert.Consts.select_eq (k : ℕ) 1 (by omega) (by omega), Cert.Consts.select_eq (k : ℕ) 2 (by omega) (by omega), named_tau]
  rfl

/-- The augmented `û` up to coordinate 128 is `û`. -/
theorem ua_lo (i : Fin 1024) (d : Fin 128) :
    k0_pay63 x0 x1 x2 x3 x4 (ix2 (Fin.castAdd 16 d) i) = emb x0 x1 i d := by
  rw [← ut_apply x0 x1 x2 x3 x4]
  unfold k0_pay63
  generalize k0_pay55 x0 x1 x2 x3 x4 = w
  pointwise [k0_pay13]
  rw [dif_pos (by simp)]
  rfl

/-- Past it the augmented `û` is one. -/
theorem ua_hi (i : Fin 1024) (k : Fin 16) :
    k0_pay63 x0 x1 x2 x3 x4 (ix2 (Fin.natAdd 128 k) i) = 1 := by
  unfold k0_pay63
  generalize k0_pay55 x0 x1 x2 x3 x4 = w
  pointwise [k0_pay13]
  rw [dif_neg (by simp)]

/-- Sixteen terms of which the first three are given and the rest zero. -/
theorem sum_three (a b c : EReal) :
    ∑ k : Fin 16, (if (k : ℕ) = 0 then a else if (k : ℕ) = 1 then b else if (k : ℕ) = 2 then c else 0) = a + (b + c) := by
  simp [Fin.sum_univ_succ]

/-- The unscaled logit of row `i` at column `j`, from the blocks. -/
def logits (i j : Fin 1024) : EReal := klogit (emb x0 x1) (emb x2 x3) (fun j => x4 (ix3 0 0 j)) i j

/-- The product of the augmented embeddings is the unscaled logit. -/
theorem aug_product (i j : Fin 1024) :
    ∑ x : Fin 144, k0_pay62 x0 x1 x2 x3 x4 (ix2 j x) * k0_pay63 x0 x1 x2 x3 x4 (ix2 x i) = logits x0 x1 x2 x3 x4 i j := by
  refine (Fin.sum_univ_add (a := 128) (b := 16)
    (fun x : Fin (128 + 16) => k0_pay62 x0 x1 x2 x3 x4 (ix2 j x) * k0_pay63 x0 x1 x2 x3 x4 (ix2 x i))).trans ?_
  simp only [va_lo, va_hi, ua_lo, ua_hi, mul_one, sum_three]
  rfl

end Cert.KernelIdeal.Tile

end
-- ==== Proof.Tiles.lean ====
/- The four tiles of the kernel's body, at offsets 0, 256, 512 and 768: what each stores, read at an index and named by
   the mathematics of a row (RowMath.lean). What a tile computes is stated once, at any offset; a tile's printed payloads
   are that at its own offset, which the kernel checks by unfolding. Only the gradient by the logits is put together from
   its pieces differently in each tile. -/
module

public import proofs.«01_k».proof.Proof.Tile

@[expose] public section

noncomputable section

namespace Cert.KernelIdeal.Tile

open Cert.KernelIdeal Cert.KernelIdeal.Gen Idealize.ShloMosaic Idealize.ShloMosaic.TcCoe Idealize.SL.Sem
open Cert.Row

/-! ## What a tile computes, at any offset -/

/-- Where a `[256, 256]` square has its diagonal. -/
def eye : IVec S256x256 1 :=
  cmpi .eq (iota .tc S256x256 32 [0] iota_S256x256_d0_w32) (iota .tc S256x256 32 [1] iota_S256x256_d1_w32)

/-- The unscaled logits: the augmented `v̂` times 256 columns of the augmented `û`. -/
def tlogits (o : ℕ) (h : S144x1024.Slices ![0, o] S144x256) (va : FVec Ideal S1024x144 .bf16) (ua : FVec Ideal S144x1024 .bf16) :
    FVec Ideal S1024x256 .f32 :=
  matmul dot_S1024x144_S144x256_S1024x256_1_0_0_1_n_n none va (extractStridedSlice S144x256 ![0, o] ua h)
    (constant S1024x256 .f32 0x00000000#32)

/-- The losses. -/
def tloss (o : ℕ) (h : S1024x256.Slices ![o, 0] S256x256) (T : FVec Ideal S1024x256 .f32) : FVec Ideal S1x1x256 .f32 :=
  shapeCast S1x1x256 (addf (mulf (subf (tmax T) (shapeCast S1x256 (multiReduction .add [0] S256
    (select eye (extractStridedSlice S256x256 ![o, 0] T h) (broadcast S256x256 (Scalar.ofBits .f32 0x00000000#32)))
    0x00000000#32 reduces_S256x256_S256 (.inl rfl) rfl) shapeCasts_S256_S1x256))
    (broadcast S1x256 (Scalar.ofBits .f32 0x41A00000#32))) (log (tsum T))) shapeCasts_S1x256_S1x1x256

/-- The probabilities. -/
def tprob (T : FVec Ideal S1024x256 .f32) : FVec Ideal S1024x256 .f32 :=
  mulf (texp T) (broadcastTo S1024x256 (divf (broadcast S1x256 (Scalar.ofBits .f32 0x3F800000#32)) (tsum T)) broadcasts_S1x256_S1024x256)

/-- The square of the probabilities that has the diagonal, less one there. -/
def tsquare (o : ℕ) (h : S1024x256.Slices ![o, 0] S256x256) (P : FVec Ideal S1024x256 .f32) : FVec Ideal S256x256 .f32 :=
  select eye (subf (extractStridedSlice S256x256 ![o, 0] P h) (broadcast S256x256 (Scalar.ofBits .f32 0x3F800000#32)))
    (extractStridedSlice S256x256 ![o, 0] P h)

/-- The gradient by `û`, from the gradient `G` by the logits. -/
def tdU (w : FVec Ideal S128x1024 .bf16) (G : FVec Ideal S1024x256 .bf16) : FVec Ideal S1x256x128 .bf16 :=
  shapeCast S1x256x128 (transpose S256x128 [1, 0] (truncf .bf16 (mulf
    (matmul dot_S128x1024_S1024x256_S128x256_1_0_0_1_n_n none w G (constant S128x256 .f32 0x00000000#32))
    (broadcast S128x256 (Scalar.ofBits .f32 0x41A00000#32))) bitsLt_bf16_f32) transposes_S128x256_p1_0_S256x128)
    shapeCasts_S256x128_S1x256x128

/-- The tile's part of the gradient by `v̂`, added onto `acc`. -/
def tdV (o : ℕ) (h : S128x1024.Slices ![0, o] S128x256) (w : FVec Ideal S128x1024 .bf16) (acc : FVec Ideal S128x1024 .f32)
    (G : FVec Ideal S1024x256 .bf16) : FVec Ideal S128x1024 .f32 :=
  addf acc (matmul dot_S128x256_S1024x256_S128x1024_1_1_0_0_n_n none (extractStridedSlice S128x256 ![0, o] w h) G
    (constant S128x1024 .f32 0x00000000#32))

/-- The accumulated gradient by `v̂`, scaled by 20 and laid out as it is stored. -/
def tout (acc : FVec Ideal S128x1024 .f32) : FVec Ideal S1x1024x128 .bf16 :=
  shapeCast S1x1024x128 (transpose S1024x128 [1, 0] (truncf .bf16 (mulf acc
    (broadcast S128x1024 (Scalar.ofBits .f32 0x41A00000#32))) bitsLt_bf16_f32) transposes_S128x1024_p1_0_S1024x128)
    shapeCasts_S1024x128_S1x1024x128

section
variable (o : ℕ) (ho : o + 256 ≤ 1024)

theorem tlogits_apply (h : S144x1024.Slices ![0, o] S144x256) (va : FVec Ideal S1024x144 .bf16) (ua : FVec Ideal S144x1024 .bf16)
    (j : Fin 1024) (c : Fin 256) : tlogits o h va ua (ix2 j c) = ∑ x, va (ix2 j x) * ua (ix2 x (row o ho c)) := by
  pointwise [tlogits]

theorem tloss_apply (h : S1024x256.Slices ![o, 0] S256x256) (T : FVec Ideal S1024x256 .f32) (t : Fin 1024 → EReal) (c : Fin 256)
    (hT : ∀ j, T (ix2 j c) = t j) : tloss o h T (ix3 0 0 c) = kloss t (row o ho c) := by
  unfold tloss
  pointwise [eye]
  rw [Cert.Consts.twenty, diag_sum, tmax_apply T t c hT, tsum_apply T t c hT, hT]
  rfl

theorem tprob_apply (T : FVec Ideal S1024x256 .f32) (t : Fin 1024 → EReal) (c : Fin 256) (hT : ∀ j, T (ix2 j c) = t j) (j : Fin 1024) :
    tprob T (ix2 j c) = kprob t j := by
  unfold tprob
  pointwise
  rw [texp_apply T t c hT, tsum_apply T t c hT]
  rfl

theorem tsquare_apply (h : S1024x256.Slices ![o, 0] S256x256) (P : FVec Ideal S1024x256 .f32) (r c : Fin 256) :
    tsquare o h P (ix2 r c) = if r = c then P (ix2 (row o ho r) c) - 1 else P (ix2 (row o ho r) c) := by
  pointwise [tsquare, eye]
  rw [Cert.Consts.select_eq _ _ (by omega) (by omega)]
  simp only [Fin.ext_iff]

theorem tdU_apply (w : FVec Ideal S128x1024 .bf16) (G : FVec Ideal S1024x256 .bf16) (c : Fin 256) (d : Fin 128) :
    tdU w G (ix3 0 c d) = (∑ j, w (ix2 d j) * G (ix2 j c)) * 20 := by
  pointwise [tdU]
  rw [Cert.Consts.twenty]

theorem tdV_apply (h : S128x1024.Slices ![0, o] S128x256) (w : FVec Ideal S128x1024 .bf16) (acc : FVec Ideal S128x1024 .f32)
    (G : FVec Ideal S1024x256 .bf16) (j : Fin 1024) (d : Fin 128) :
    tdV o h w acc G (ix2 d j) = acc (ix2 d j) + ∑ c, w (ix2 d (row o ho c)) * G (ix2 j c) := by
  pointwise [tdV]

theorem tout_apply (acc : FVec Ideal S128x1024 .f32) (j : Fin 1024) (d : Fin 128) : tout acc (ix3 0 j d) = acc (ix2 d j) * 20 := by
  pointwise [tout]
  rw [Cert.Consts.twenty]

/-- What is asked of the gradient `G` by the logits that a tile puts together from its probabilities `P`: outside the
    diagonal square it is `P`, within it the square of `tsquare`. -/
structure Pieces (P : FVec Ideal S1024x256 .f32) (h : S1024x256.Slices ![o, 0] S256x256) (G : FVec Ideal S1024x256 .bf16) : Prop where
  outside : ∀ (j : Fin 1024) (c : Fin 256), (j : ℕ) < o ∨ o + 256 ≤ j → G (ix2 j c) = P (ix2 j c)
  inside : ∀ r c : Fin 256, G (ix2 (row o ho r) c) = tsquare o h P (ix2 r c)

/-- Such a `G` is the gradient by the logits. -/
theorem grad_apply {h : S1024x256.Slices ![o, 0] S256x256} {T : FVec Ideal S1024x256 .f32} {G : FVec Ideal S1024x256 .bf16}
    (hG : Pieces o ho (tprob T) h G) (t : Fin 1024 → EReal) (c : Fin 256) (hT : ∀ j, T (ix2 j c) = t j) (j : Fin 1024) :
    G (ix2 j c) = kgrad t (row o ho c) j := by
  unfold kgrad
  by_cases hj : (j : ℕ) < o ∨ o + 256 ≤ j
  · rw [hG.outside j c hj, tprob_apply T t c hT, if_neg]
    intro e
    have := congrArg Fin.val e
    simp only at this
    omega
  · obtain ⟨r, rfl⟩ : ∃ r : Fin 256, j = row o ho r := ⟨⟨j - o, by omega⟩, Fin.ext (by simp only; omega)⟩
    rw [hG.inside r c, tsquare_apply o ho, tprob_apply T t c hT]
    refine if_congr ?_ rfl rfl
    simp only [Fin.ext_iff]
    omega
end

/-! ## The four ways the gradient by the logits is put together -/

section
variable (P : FVec Ideal S1024x256 .f32)

/-- The square, then the rest. -/
def G0 : FVec Ideal S1024x256 .bf16 := truncf .bf16 (concatenate S1024x256 0
  [⟨S256x256, tsquare 0 slices_S1024x256_o0_0_S256x256 P⟩,
    ⟨S768x256, extractStridedSlice S768x256 ![256, 0] P slices_S1024x256_o256_0_S768x256⟩]
  concatenates_S256x256_S768x256_S1024x256_d0) bitsLt_bf16_f32

/-- 256 rows, the square, 512 rows. -/
def G1 : FVec Ideal S1024x256 .bf16 := truncf .bf16 (concatenate S1024x256 0
  [⟨S256x256, extractStridedSlice S256x256 ![0, 0] P slices_S1024x256_o0_0_S256x256⟩,
    ⟨S256x256, tsquare 256 slices_S1024x256_o256_0_S256x256 P⟩,
    ⟨S512x256, extractStridedSlice S512x256 ![512, 0] P slices_S1024x256_o512_0_S512x256⟩]
  concatenates_S256x256_S256x256_S512x256_S1024x256_d0) bitsLt_bf16_f32

/-- 512 rows, the square, 256 rows. -/
def G2 : FVec Ideal S1024x256 .bf16 := truncf .bf16 (concatenate S1024x256 0
  [⟨S512x256, extractStridedSlice S512x256 ![0, 0] P slices_S1024x256_o0_0_S512x256⟩,
    ⟨S256x256, tsquare 512 slices_S1024x256_o512_0_S256x256 P⟩,
    ⟨S256x256, extractStridedSlice S256x256 ![768, 0] P slices_S1024x256_o768_0_S256x256⟩]
  concatenates_S512x256_S256x256_S256x256_S1024x256_d0) bitsLt_bf16_f32

/-- 768 rows, then the square. -/
def G3 : FVec Ideal S1024x256 .bf16 := truncf .bf16 (concatenate S1024x256 0
  [⟨S768x256, extractStridedSlice S768x256 ![0, 0] P slices_S1024x256_o0_0_S768x256⟩,
    ⟨S256x256, tsquare 768 slices_S1024x256_o768_0_S256x256 P⟩]
  concatenates_S768x256_S256x256_S1024x256_d0) bitsLt_bf16_f32

theorem G0_pieces : Pieces 0 (by omega) P slices_S1024x256_o0_0_S256x256 (G0 P) := by
  constructor
  · intro j c hj
    unfold G0
    generalize tsquare 0 slices_S1024x256_o0_0_S256x256 P = Q
    pointwise
    repeat' split
    all_goals first
      | (exfalso; omega)
      | rfl
      | exact congrArg (fun x => P (ix2 x c)) (Fin.ext (by simp only; omega))
  · intro r c
    unfold G0
    generalize tsquare 0 slices_S1024x256_o0_0_S256x256 P = Q
    pointwise

theorem G1_pieces : Pieces 256 (by omega) P slices_S1024x256_o256_0_S256x256 (G1 P) := by
  constructor
  · intro j c hj
    unfold G1
    generalize tsquare 256 slices_S1024x256_o256_0_S256x256 P = Q
    pointwise
    repeat' split
    all_goals first
      | (exfalso; omega)
      | rfl
      | exact congrArg (fun x => P (ix2 x c)) (Fin.ext (by simp only; omega))
  · intro r c
    unfold G1
    generalize tsquare 256 slices_S1024x256_o256_0_S256x256 P = Q
    pointwise

theorem G2_pieces : Pieces 512 (by omega) P slices_S1024x256_o512_0_S256x256 (G2 P) := by
  constructor
  · intro j c hj
    unfold G2
    generalize tsquare 512 slices_S1024x256_o512_0_S256x256 P = Q
    pointwise
    repeat' split
    all_goals first
      | (exfalso; omega)
      | rfl
      | exact congrArg (fun x => P (ix2 x c)) (Fin.ext (by simp only; omega))
  · intro r c
    unfold G2
    generalize tsquare 512 slices_S1024x256_o512_0_S256x256 P = Q
    pointwise

theorem G3_pieces : Pieces 768 (by omega) P slices_S1024x256_o768_0_S256x256 (G3 P) := by
  constructor
  · intro j c hj
    unfold G3
    generalize tsquare 768 slices_S1024x256_o768_0_S256x256 P = Q
    pointwise
    repeat' split
    all_goals first
      | (exfalso; omega)
      | rfl
      | exact congrArg (fun x => P (ix2 x c)) (Fin.ext (by simp only; omega))
  · intro r c
    unfold G3
    generalize tsquare 768 slices_S1024x256_o768_0_S256x256 P = Q
    pointwise

end

end Cert.KernelIdeal.Tile

end
-- ==== Proof.Block.lean ====
/- What the kernel's body leaves in its three output blocks, read at an index and named by the mathematics of a row
   (RowMath.lean), from the blocks it is given. -/
module

public import proofs.«01_k».proof.Proof.Tiles
public import Idealize.ShloMosaic.Lib.Pipeline.ValueKit.Tiles

@[expose] public section

noncomputable section

namespace Cert.KernelIdeal.Block

open Cert.KernelIdeal Cert.KernelIdeal.Gen Idealize.ShloMosaic Idealize.ShloMosaic.TcCoe Idealize.SL.Sem
open Cert.Row Cert.KernelIdeal.Tile

variable (x0 : Vec Ideal S1x1024x128 .fp8e4m3) (x1 : Vec Ideal S1x4x1024 .f32) (x2 : Vec Ideal S1x1024x128 .fp8e4m3)
  (x3 : Vec Ideal S1x4x1024 .f32) (x4 : Vec Ideal S1x1x1024 .f32)

/-- The unscaled logits of the tile at offset `o`. -/
def T (o : ℕ) (h : S144x1024.Slices ![0, o] S144x256) : FVec Ideal S1024x256 .f32 :=
  tlogits o h (k0_pay62 x0 x1 x2 x3 x4) (k0_pay63 x0 x1 x2 x3 x4)

/-- The gradient by the logits of the whole batch entry, row `i` and column `j`. -/
def glogit (i j : Fin 1024) : EReal := kgrad (logits x0 x1 x2 x3 x4 i) i j

/-- The loss of row `i`. -/
def bloss (i : Fin 1024) : EReal := kloss (logits x0 x1 x2 x3 x4 i) i

/-- The gradient by `û` of row `i` at coordinate `d`. -/
def bdU (i : Fin 1024) (d : Fin 128) : EReal := (∑ j, emb x2 x3 j d * glogit x0 x1 x2 x3 x4 i j) * 20

/-- The gradient by `v̂` of column `j` at coordinate `d`. -/
def bdV (j : Fin 1024) (d : Fin 128) : EReal := (∑ i, emb x0 x1 i d * glogit x0 x1 x2 x3 x4 i j) * 20

section
variable (o : ℕ) (ho : o + 256 ≤ 1024)

theorem T_apply (h : S144x1024.Slices ![0, o] S144x256) (c : Fin 256) (j : Fin 1024) :
    T x0 x1 x2 x3 x4 o h (ix2 j c) = logits x0 x1 x2 x3 x4 (row o ho c) j :=
  (tlogits_apply o ho h _ _ j c).trans (aug_product x0 x1 x2 x3 x4 _ j)

/-- A tile's losses are the batch entry's. -/
theorem loss_tile (h : S144x1024.Slices ![0, o] S144x256) (h' : S1024x256.Slices ![o, 0] S256x256) (c : Fin 256) :
    tloss o h' (T x0 x1 x2 x3 x4 o h) (ix3 0 0 c) = bloss x0 x1 x2 x3 x4 (row o ho c) :=
  tloss_apply o ho h' _ _ c (T_apply x0 x1 x2 x3 x4 o ho h c)

include ho in
/-- The same at any index of the tile's block. -/
theorem loss_at (h : S144x1024.Slices ![0, o] S144x256) (h' : S1024x256.Slices ![o, 0] S256x256) (x : S1x1x256.Idx) (i : Fin 1024)
    (hi : (i : ℕ) = o + (x 2 : ℕ)) : tloss o h' (T x0 x1 x2 x3 x4 o h) x = bloss x0 x1 x2 x3 x4 i := by
  obtain ⟨a, b, c, rfl⟩ : ∃ a b c, x = ix3 a b c := ⟨_, _, _, eq_ix3 x⟩
  obtain rfl : a = 0 := Subsingleton.elim _ _
  obtain rfl : b = 0 := Subsingleton.elim _ _
  obtain rfl : i = row o ho c := Fin.ext hi
  exact loss_tile x0 x1 x2 x3 x4 o ho h h' c

/-- A tile's gradient by the logits is the batch entry's. -/
theorem grad_tile (h : S144x1024.Slices ![0, o] S144x256) {h' : S1024x256.Slices ![o, 0] S256x256} {G : FVec Ideal S1024x256 .bf16}
    (hG : Pieces o ho (tprob (T x0 x1 x2 x3 x4 o h)) h' G) (c : Fin 256) (j : Fin 1024) :
    G (ix2 j c) = glogit x0 x1 x2 x3 x4 (row o ho c) j :=
  grad_apply o ho hG _ c (T_apply x0 x1 x2 x3 x4 o ho h c) j

/-- A tile's gradient by `û` is the batch entry's. -/
theorem dU_tile (h : S144x1024.Slices ![0, o] S144x256) {h' : S1024x256.Slices ![o, 0] S256x256} {G : FVec Ideal S1024x256 .bf16}
    (hG : Pieces o ho (tprob (T x0 x1 x2 x3 x4 o h)) h' G) (c : Fin 256) (d : Fin 128) :
    tdU (k0_pay56 x0 x1 x2 x3 x4) G (ix3 0 c d) = bdU x0 x1 x2 x3 x4 (row o ho c) d := by
  rw [tdU_apply]
  simp only [vt_apply, grad_tile x0 x1 x2 x3 x4 o ho h hG]
  rfl

/-- The same at any index of the tile's block. -/
theorem dU_at (h : S144x1024.Slices ![0, o] S144x256) {h' : S1024x256.Slices ![o, 0] S256x256} {G : FVec Ideal S1024x256 .bf16}
    (hG : Pieces o ho (tprob (T x0 x1 x2 x3 x4 o h)) h' G) (x : S1x256x128.Idx) (i : Fin 1024) (d : Fin 128)
    (hi : (i : ℕ) = o + (x 1 : ℕ)) (hd : (d : ℕ) = (x 2 : ℕ)) :
    tdU (k0_pay56 x0 x1 x2 x3 x4) G x = bdU x0 x1 x2 x3 x4 i d := by
  obtain ⟨a, b, c, rfl⟩ : ∃ a b c, x = ix3 a b c := ⟨_, _, _, eq_ix3 x⟩
  obtain rfl : a = 0 := Subsingleton.elim _ _
  obtain rfl : i = row o ho b := Fin.ext hi
  obtain rfl : d = c := Fin.ext hd
  exact dU_tile x0 x1 x2 x3 x4 o ho h hG b d

/-- A tile adds its rows' part of the gradient by `v̂`. -/
theorem dV_tile (h : S144x1024.Slices ![0, o] S144x256) (h2 : S128x1024.Slices ![0, o] S128x256)
    {h' : S1024x256.Slices ![o, 0] S256x256} {G : FVec Ideal S1024x256 .bf16} (hG : Pieces o ho (tprob (T x0 x1 x2 x3 x4 o h)) h' G)
    (acc : FVec Ideal S128x1024 .f32) (j : Fin 1024) (d : Fin 128) :
    tdV o h2 (k0_pay55 x0 x1 x2 x3 x4) acc G (ix2 d j)
      = acc (ix2 d j) + ∑ c, emb x0 x1 (row o ho c) d * glogit x0 x1 x2 x3 x4 (row o ho c) j := by
  rw [tdV_apply o ho]
  simp only [ut_apply, grad_tile x0 x1 x2 x3 x4 o ho h hG]
end

/-! ## The four tiles' gradients by the logits -/

/-- At offset 0. -/
def g0 : FVec Ideal S1024x256 .bf16 := G0 (tprob (T x0 x1 x2 x3 x4 0 slices_S144x1024_o0_0_S144x256))
theorem g0_pieces : Pieces 0 (by omega) (tprob (T x0 x1 x2 x3 x4 0 slices_S144x1024_o0_0_S144x256)) slices_S1024x256_o0_0_S256x256
    (g0 x0 x1 x2 x3 x4) := G0_pieces _

/-- At offset 256. -/
def g1 : FVec Ideal S1024x256 .bf16 := G1 (tprob (T x0 x1 x2 x3 x4 256 slices_S144x1024_o0_256_S144x256))
theorem g1_pieces : Pieces 256 (by omega) (tprob (T x0 x1 x2 x3 x4 256 slices_S144x1024_o0_256_S144x256)) slices_S1024x256_o256_0_S256x256
    (g1 x0 x1 x2 x3 x4) := G1_pieces _

/-- At offset 512. -/
def g2 : FVec Ideal S1024x256 .bf16 := G2 (tprob (T x0 x1 x2 x3 x4 512 slices_S144x1024_o0_512_S144x256))
theorem g2_pieces : Pieces 512 (by omega) (tprob (T x0 x1 x2 x3 x4 512 slices_S144x1024_o0_512_S144x256)) slices_S1024x256_o512_0_S256x256
    (g2 x0 x1 x2 x3 x4) := G2_pieces _

/-- At offset 768. -/
def g3 : FVec Ideal S1024x256 .bf16 := G3 (tprob (T x0 x1 x2 x3 x4 768 slices_S144x1024_o0_768_S144x256))
theorem g3_pieces : Pieces 768 (by omega) (tprob (T x0 x1 x2 x3 x4 768 slices_S144x1024_o0_768_S144x256)) slices_S1024x256_o768_0_S256x256
    (g3 x0 x1 x2 x3 x4) := G3_pieces _

/-! ## The output blocks -/

/-- The block of losses, its payloads named. -/
theorem out5_eq : out0_5 x0 x1 x2 x3 x4 = View.canon [⟨r0_9, tloss 768 slices_S1024x256_o768_0_S256x256 (T x0 x1 x2 x3 x4 768 slices_S144x1024_o0_768_S144x256)⟩,
    ⟨r0_7, tloss 512 slices_S1024x256_o512_0_S256x256 (T x0 x1 x2 x3 x4 512 slices_S144x1024_o0_512_S144x256)⟩,
    ⟨r0_5, tloss 256 slices_S1024x256_o256_0_S256x256 (T x0 x1 x2 x3 x4 256 slices_S144x1024_o0_256_S144x256)⟩,
    ⟨r0_3, tloss 0 slices_S1024x256_o0_0_S256x256 (T x0 x1 x2 x3 x4 0 slices_S144x1024_o0_0_S144x256)⟩] := rfl

/-- The block of gradients by `û`, its payloads named. -/
theorem out6_eq : out0_6 x0 x1 x2 x3 x4 = View.canon [⟨r0_10, tdU (k0_pay56 x0 x1 x2 x3 x4) (g3 x0 x1 x2 x3 x4)⟩, ⟨r0_8, tdU (k0_pay56 x0 x1 x2 x3 x4) (g2 x0 x1 x2 x3 x4)⟩,
    ⟨r0_6, tdU (k0_pay56 x0 x1 x2 x3 x4) (g1 x0 x1 x2 x3 x4)⟩, ⟨r0_4, tdU (k0_pay56 x0 x1 x2 x3 x4) (g0 x0 x1 x2 x3 x4)⟩] := rfl

/-- The block of gradients by `v̂`, its payload named. -/
theorem out7_eq : out0_7 x0 x1 x2 x3 x4 = View.canon [⟨r0_0, tout
    (tdV 768 slices_S128x1024_o0_768_S128x256 (k0_pay55 x0 x1 x2 x3 x4) (tdV 512 slices_S128x1024_o0_512_S128x256 (k0_pay55 x0 x1 x2 x3 x4) (tdV 256 slices_S128x1024_o0_256_S128x256 (k0_pay55 x0 x1 x2 x3 x4) (tdV 0 slices_S128x1024_o0_0_S128x256 (k0_pay55 x0 x1 x2 x3 x4) (k0_pay14 (F := Ideal)) (g0 x0 x1 x2 x3 x4)) (g1 x0 x1 x2 x3 x4)) (g2 x0 x1 x2 x3 x4)) (g3 x0 x1 x2 x3 x4))⟩] := rfl

/-- The block of losses. -/
theorem out5_apply (i : Fin 1024) : out0_5 x0 x1 x2 x3 x4 (ix3 0 0 i) = bloss x0 x1 x2 x3 x4 i := by
  rw [out5_eq]
  canon_tiles x h
  all_goals change (i : ℕ) = _ at h2
  · exact loss_at x0 x1 x2 x3 x4 768 (by omega) _ _ x i h2
  · exact loss_at x0 x1 x2 x3 x4 512 (by omega) _ _ x i h2
  · exact loss_at x0 x1 x2 x3 x4 256 (by omega) _ _ x i h2
  · exact loss_at x0 x1 x2 x3 x4 0 (by omega) _ _ x i (by omega)

/-- The block of gradients by `û`. -/
theorem out6_apply (i : Fin 1024) (d : Fin 128) : out0_6 x0 x1 x2 x3 x4 (ix3 0 i d) = bdU x0 x1 x2 x3 x4 i d := by
  rw [out6_eq]
  canon_tiles x h
  all_goals change (i : ℕ) = _ at h1
  · exact dU_at x0 x1 x2 x3 x4 _ _ _ (g3_pieces x0 x1 x2 x3 x4) x i d h1 h2
  · exact dU_at x0 x1 x2 x3 x4 _ _ _ (g2_pieces x0 x1 x2 x3 x4) x i d h1 h2
  · exact dU_at x0 x1 x2 x3 x4 _ _ _ (g1_pieces x0 x1 x2 x3 x4) x i d h1 h2
  · exact dU_at x0 x1 x2 x3 x4 _ _ _ (g0_pieces x0 x1 x2 x3 x4) x i d (by omega) h2

/-- The block of gradients by `v̂`. -/
theorem out7_apply (j : Fin 1024) (d : Fin 128) : out0_7 x0 x1 x2 x3 x4 (ix3 0 j d) = bdV x0 x1 x2 x3 x4 j d := by
  rw [out7_eq]
  canon_tiles x h
  obtain rfl : x = ix3 0 j d := by
    obtain ⟨a, b, c, rfl⟩ : ∃ a b c, x = ix3 a b c := ⟨_, _, _, eq_ix3 x⟩
    obtain rfl : a = 0 := Subsingleton.elim _ _
    obtain rfl : j = b := Fin.ext h1
    obtain rfl : d = c := Fin.ext h2
    rfl
  rw [tout_apply, dV_tile x0 x1 x2 x3 x4 768 _ _ _ (g3_pieces x0 x1 x2 x3 x4), dV_tile x0 x1 x2 x3 x4 512 _ _ _ (g2_pieces x0 x1 x2 x3 x4),
    dV_tile x0 x1 x2 x3 x4 256 _ _ _ (g1_pieces x0 x1 x2 x3 x4), dV_tile x0 x1 x2 x3 x4 0 _ _ _ (g0_pieces x0 x1 x2 x3 x4)]
  have h0 : k0_pay14 (F := Ideal) (ix2 d j) = 0 := by pointwise [k0_pay14]
  rw [h0, sum_blocks fun i => emb x0 x1 i d * glogit x0 x1 x2 x3 x4 i j]
  rfl

end Cert.KernelIdeal.Block

end
-- ==== Proof.KernelArray.lean ====
/- What the kernel leaves in its three result arrays, read at an index: batch entry `b` is written at grid point `b`, from
   the argument arrays' batch entry `b` (Block.lean says what). -/
module

public import proofs.«01_k».proof.Proof.Block
public import proofs.«01_k».proof.Proof.Entry
public import proofs.«01_k».proof.Proof.Gen.KernelIdeal.Value
public import Idealize.ShloMosaic.Lib.StableHlo.Run

@[expose] public section

noncomputable section

namespace Cert.KernelIdeal.Array

open Cert.KernelIdeal Cert.KernelIdeal.Gen Idealize.ShloMosaic Idealize.ShloMosaic.TcCoe Idealize.SL.Sem
open Cert.Row Cert.KernelIdeal.Tile Cert.KernelIdeal.Block

/-- Grid point `b`. -/
def pt (b : Fin 24) : Fin cfg0.N := ⟨b, by rw [show cfg0.N = 24 from rfl]; exact b.isLt⟩

/-! ## Where point `b`'s blocks lie: at batch entry `b`, and whole otherwise -/

theorem idx0 : ∀ b : Fin 24, win0_0.index (pt b) = ![b.val, 0, 0] := by decide +kernel
theorem idx1 : ∀ b : Fin 24, win0_1.index (pt b) = ![b.val, 0, 0] := by decide +kernel
theorem idx2 : ∀ b : Fin 24, win0_2.index (pt b) = ![b.val, 0, 0] := by decide +kernel
theorem idx3 : ∀ b : Fin 24, win0_3.index (pt b) = ![b.val, 0, 0] := by decide +kernel
theorem idx4 : ∀ b : Fin 24, win0_4.index (pt b) = ![b.val, 0, 0] := by decide +kernel
theorem idx5 : ∀ b : Fin 24, win0_5.index (pt b) = ![b.val, 0, 0] := by decide +kernel
theorem idx6 : ∀ b : Fin 24, win0_6.index (pt b) = ![b.val, 0, 0] := by decide +kernel
theorem idx7 : ∀ b : Fin 24, win0_7.index (pt b) = ![b.val, 0, 0] := by decide +kernel

/-- The coordinates of an element of batch entry `b`'s block: the block's place times its size, plus the element's own. -/
theorem in_entry (b n k : ℕ) (hb : b < 24) (i : Fin n) (j : Fin k) (a : Fin 3) :
    (![b, 0, 0] a : ℕ) * ![1, n, k] a + (ix3 (0 : Fin 1) i j a : ℕ) = ix3 (⟨b, hb⟩ : Fin 24) i j a := by
  match a with
  | ⟨0, _⟩ => show b * 1 + 0 = b; omega
  | ⟨1, _⟩ => show 0 * n + i.val = i.val; omega
  | ⟨2, _⟩ => show 0 * k + j.val = j.val; omega

theorem emb0 (b : Fin 24) (i : Fin 1024) (j : Fin 128) : ((cfg0.win 0).blk (pt b)).view.emb (ix3 0 i j) = ix3 b i j :=
  funext fun a => Fin.ext ((win0_0.rect_emb_val (pt b) (ix3 0 i j) a).trans (by
    rw [idx0]; exact in_entry b.val 1024 128 b.isLt i j a))

theorem emb1 (b : Fin 24) (i : Fin 4) (j : Fin 1024) : ((cfg0.win 1).blk (pt b)).view.emb (ix3 0 i j) = ix3 b i j :=
  funext fun a => Fin.ext ((win0_1.rect_emb_val (pt b) (ix3 0 i j) a).trans (by
    rw [idx1]; exact in_entry b.val 4 1024 b.isLt i j a))

theorem emb2 (b : Fin 24) (i : Fin 1024) (j : Fin 128) : ((cfg0.win 2).blk (pt b)).view.emb (ix3 0 i j) = ix3 b i j :=
  funext fun a => Fin.ext ((win0_2.rect_emb_val (pt b) (ix3 0 i j) a).trans (by
    rw [idx2]; exact in_entry b.val 1024 128 b.isLt i j a))

theorem emb3 (b : Fin 24) (i : Fin 4) (j : Fin 1024) : ((cfg0.win 3).blk (pt b)).view.emb (ix3 0 i j) = ix3 b i j :=
  funext fun a => Fin.ext ((win0_3.rect_emb_val (pt b) (ix3 0 i j) a).trans (by
    rw [idx3]; exact in_entry b.val 4 1024 b.isLt i j a))

theorem emb4 (b : Fin 24) (i : Fin 1) (j : Fin 1024) : ((cfg0.win 4).blk (pt b)).view.emb (ix3 0 i j) = ix3 b i j :=
  funext fun a => Fin.ext ((win0_4.rect_emb_val (pt b) (ix3 0 i j) a).trans (by
    rw [idx4]; exact in_entry b.val 1 1024 b.isLt i j a))

theorem emb5 (b : Fin 24) (i : Fin 1) (j : Fin 1024) : ((cfg0.win 5).blk (pt b)).view.emb (ix3 0 i j) = ix3 b i j :=
  funext fun a => Fin.ext ((win0_5.rect_emb_val (pt b) (ix3 0 i j) a).trans (by
    rw [idx5]; exact in_entry b.val 1 1024 b.isLt i j a))

theorem emb6 (b : Fin 24) (i : Fin 1024) (j : Fin 128) : ((cfg0.win 6).blk (pt b)).view.emb (ix3 0 i j) = ix3 b i j :=
  funext fun a => Fin.ext ((win0_6.rect_emb_val (pt b) (ix3 0 i j) a).trans (by
    rw [idx6]; exact in_entry b.val 1024 128 b.isLt i j a))

theorem emb7 (b : Fin 24) (i : Fin 1024) (j : Fin 128) : ((cfg0.win 7).blk (pt b)).view.emb (ix3 0 i j) = ix3 b i j :=
  funext fun a => Fin.ext ((win0_7.rect_emb_val (pt b) (ix3 0 i j) a).trans (by
    rw [idx7]; exact in_entry b.val 1024 128 b.isLt i j a))

variable (m : (ℓ : Loc nD τ sig) → Buf (Elt Ideal) ℓ) (c : Dev nD)

/-! ## The arguments' batch entries, as launched -/

/-- The embeddings `û`. -/
abbrev U (b : Fin 24) : Fin 1024 → Fin 128 → EReal :=
  Cert.Entry.emb (m ((c : Thread nD τ).loc main_arg0)) (m ((c : Thread nD τ).loc main_arg1)) b

/-- The embeddings `v̂`. -/
abbrev V' (b : Fin 24) : Fin 1024 → Fin 128 → EReal :=
  Cert.Entry.emb (m ((c : Thread nD τ).loc main_arg2)) (m ((c : Thread nD τ).loc main_arg3)) b

/-- The log-frequencies. -/
abbrev q (b : Fin 24) : Fin 1024 → EReal := Cert.Entry.freq (m ((c : Thread nD τ).loc main_arg4)) b

/-! ## The blocks point `b` is given -/

/-- The first scales, transposed before the kernel runs. -/
theorem V_v0 : V m c main_v0 = transpose S24x4x1024 [0, 2, 1] (m ((c : Thread nD τ).loc main_arg1)) transposes_S24x1024x4_S24x4x1024_0_2_1 := by
  show StableHlo.after hostOps0 _ (Proc.devRef .tc main_v0) = _
  after_results

/-- The second scales, transposed before the kernel runs. -/
theorem V_v1 : V m c main_v1 = transpose S24x4x1024 [0, 2, 1] (m ((c : Thread nD τ).loc main_arg3)) transposes_S24x1024x4_S24x4x1024_0_2_1 := by
  show StableHlo.after hostOps0 _ (Proc.devRef .tc main_v1) = _
  after_results

/-- The log-frequencies, given a unit axis before the kernel runs. -/
theorem V_v2 : V m c main_v2 = shapeCast S24x1x1024 (m ((c : Thread nD τ).loc main_arg4)) shapeCasts_S24x1024_S24x1x1024 := by
  show StableHlo.after hostOps0 _ (Proc.devRef .tc main_v2) = _
  after_results
  rfl

theorem blk0 (b : Fin 24) (i : Fin 1024) (d : Fin 128) :
    iblk m c 0 (pt b) (ix3 0 i d) = (m ((c : Thread nD τ).loc main_arg0) : Vec Ideal S24x1024x128 .fp8e4m3) (ix3 b i d) :=
  (congrArg (V m c main_arg0) (emb0 b i d)).trans (congrFun (V_main_arg0 m c) _)

theorem blk1 (b : Fin 24) (g : Fin 4) (i : Fin 1024) :
    iblk m c 1 (pt b) (ix3 0 g i) = (m ((c : Thread nD τ).loc main_arg1) : Vec Ideal S24x1024x4 .f32) (ix3 b i g) := by
  refine (congrArg (V m c main_v0) (emb1 b g i)).trans ((congrFun (V_v0 m c) _).trans ?_)
  pointwise

theorem blk2 (b : Fin 24) (i : Fin 1024) (d : Fin 128) :
    iblk m c 2 (pt b) (ix3 0 i d) = (m ((c : Thread nD τ).loc main_arg2) : Vec Ideal S24x1024x128 .fp8e4m3) (ix3 b i d) :=
  (congrArg (V m c main_arg2) (emb2 b i d)).trans (congrFun (V_main_arg2 m c) _)

theorem blk3 (b : Fin 24) (g : Fin 4) (i : Fin 1024) :
    iblk m c 3 (pt b) (ix3 0 g i) = (m ((c : Thread nD τ).loc main_arg3) : Vec Ideal S24x1024x4 .f32) (ix3 b i g) := by
  refine (congrArg (V m c main_v1) (emb3 b g i)).trans ((congrFun (V_v1 m c) _).trans ?_)
  pointwise

theorem blk4 (b : Fin 24) (j : Fin 1024) :
    iblk m c 4 (pt b) (ix3 0 0 j) = (m ((c : Thread nD τ).loc main_arg4) : Vec Ideal S24x1024 .f32) (ix2 b j) := by
  refine (congrArg (V m c main_v2) (emb4 b 0 j)).trans ((congrFun (V_v2 m c) _).trans ?_)
  pointwise

/-- The block's `û` is the argument's. -/
theorem emb_u (b : Fin 24) : emb (iblk m c 0 (pt b)) (iblk m c 1 (pt b)) = U m c b :=
  funext fun i => funext fun d => congrArg₂ (fun x y : EReal => x * y) (blk0 m c b i d) (blk1 m c b _ i)

/-- The block's `v̂` is the argument's. -/
theorem emb_v (b : Fin 24) : emb (iblk m c 2 (pt b)) (iblk m c 3 (pt b)) = V' m c b :=
  funext fun j => funext fun d => congrArg₂ (fun x y : EReal => x * y) (blk2 m c b j d) (blk3 m c b _ j)

/-- The block's unscaled logits are those of the arguments. -/
theorem logits_eq (b : Fin 24) (i : Fin 1024) :
    logits (iblk m c 0 (pt b)) (iblk m c 1 (pt b)) (iblk m c 2 (pt b)) (iblk m c 3 (pt b)) (iblk m c 4 (pt b)) i
      = klogit (U m c b) (V' m c b) (q m c b) i := by
  funext j
  unfold logits
  rw [emb_u, emb_v, show (fun j => iblk m c 4 (pt b) (ix3 0 0 j)) = q m c b from funext fun j => blk4 m c b j]

/-! ## The results -/

section
variable (hq : ∀ b j, q m c b j ≠ ⊥)
include hq

/-- The gradient by the logits is the reference's. -/
theorem glogit_eq (b : Fin 24) (i j : Fin 1024) :
    glogit (iblk m c 0 (pt b)) (iblk m c 1 (pt b)) (iblk m c 2 (pt b)) (iblk m c 3 (pt b)) (iblk m c 4 (pt b)) i j
      = grad (U m c b) (V' m c b) (q m c b) i j := by
  unfold glogit
  rw [logits_eq]
  exact kgrad_eq _ _ _ (hq b) i j

/-- The kernel's losses. -/
theorem loss_apply (b : Fin 24) (i : Fin 1024) :
    (dats m 0 c).arrAt 5 cfg0.N (ix3 b 0 i) = loss (U m c b) (V' m c b) (q m c b) i := by
  have h := congrFun (Value.blocks5 m c (pt b) (by revert b; decide +kernel)) (ix3 0 0 i)
  rw [Value.flushed5] at h
  refine (congrArg ((dats m 0 c).arrAt 5 cfg0.N) (emb5 b 0 i).symm).trans (h.trans ((out5_apply _ _ _ _ _ i).trans ?_))
  unfold bloss
  rw [logits_eq]
  exact kloss_eq _ _ _ (hq b) i

/-- The kernel's gradients by `û`. -/
theorem dU_apply (b : Fin 24) (i : Fin 1024) (d : Fin 128) :
    (dats m 0 c).arrAt 6 cfg0.N (ix3 b i d) = dU (U m c b) (V' m c b) (q m c b) i d := by
  have h := congrFun (Value.blocks6 m c (pt b) (by revert b; decide +kernel)) (ix3 0 i d)
  rw [Value.flushed6] at h
  refine (congrArg ((dats m 0 c).arrAt 6 cfg0.N) (emb6 b i d).symm).trans (h.trans ((out6_apply _ _ _ _ _ i d).trans ?_))
  unfold bdU dU
  rw [emb_v]
  exact congrArg (· * 20) (Finset.sum_congr rfl fun j _ => by rw [glogit_eq m c hq, mul_comm])

/-- The kernel's gradients by `v̂`. -/
theorem dV_apply (b : Fin 24) (j : Fin 1024) (d : Fin 128) :
    (dats m 0 c).arrAt 7 cfg0.N (ix3 b j d) = dV (U m c b) (V' m c b) (q m c b) j d := by
  have h := congrFun (Value.blocks7 m c (pt b) (by revert b; decide +kernel)) (ix3 0 j d)
  rw [Value.flushed7] at h
  refine (congrArg ((dats m 0 c).arrAt 7 cfg0.N) (emb7 b j d).symm).trans (h.trans ((out7_apply _ _ _ _ _ j d).trans ?_))
  unfold bdV dV
  rw [emb_u]
  exact congrArg (· * 20) (Finset.sum_congr rfl fun i _ => by rw [glogit_eq m c hq, mul_comm])

end

end Cert.KernelIdeal.Array

end
-- ==== Proof.RefHost.lean ====
/- What the reference's host lines compute, as terms over the two widened code arrays and the argument arrays. Every
   definition is one step of the mathematics; every theorem reads one buffer after one of the program's five stretches of
   host lines. -/
module

public import proofs.«01_k».proof.Proof.Gen.ReferenceIdeal.Frame
public import Idealize.ShloMosaic.Lib.StableHlo.Run
public import Idealize.ShloMosaic.Lib.StableHlo.RunRead
public import Idealize.ShloMosaic.Lib.Pointwise

@[expose] public section

noncomputable section

namespace Cert.ReferenceIdeal.Host

open Cert.ReferenceIdeal Cert.ReferenceIdeal.Gen Idealize.ShloMosaic Idealize.ShloMosaic.TcCoe Idealize.SL.Sem

/-! ## The steps -/

/-- The widened codes times their group's scale. -/
def scaled (x : FVec Ideal S24x1024x128 .bf16) (s : FVec Ideal S24x1024x4 .f32) : FVec Ideal S24x1024x128 .bf16 :=
  shapeCast S24x1024x128 (mulf (shapeCast S24x1024x4x32 x shapeCasts_S24x1024x128_S24x1024x4x32)
    (broadcastInDim S24x1024x4x32 ![0, 1, 2, 3] bcast_S24x1024x4x1_S24x1024x4x32_0_1_2_3
      (broadcastInDim S24x1024x4x1 ![0, 1, 2] bcast_S24x1024x4_S24x1024x4x1_0_1_2 (truncf .bf16 s bitsLt_bf16_f32))))
    shapeCasts_S24x1024x4x32_S24x1024x128

/-- Where a `[1024, 1024]` square has its diagonal. -/
def eye : IVec S1024x1024 1 :=
  cmpi .eq (broadcastInDim S1024x1024 ![0, 1] bcast_S1024x1_S1024x1024_0_1 (broadcastInDim S1024x1 ![0] bcast_S1024_S1024x1_0 (iotaInDim S1024 32 0)))
    (broadcastInDim S1024x1024 ![0, 1] bcast_S1x1024_S1024x1024_0_1 (broadcastInDim S1x1024 ![1] bcast_S1024_S1x1024_1 (iotaInDim S1024 32 0)))

/-- The logits: the products of the embeddings, times 20, less the column's log-frequency. -/
def logits (u v : FVec Ideal S24x1024x128 .bf16) (q : FVec Ideal S24x1024 .f32) : FVec Ideal S24x1024x1024 .f32 :=
  subf (mulf (Host.dotGeneral dot_S24x1024x128_S24x1024x128_S24x1024x1024_2_2_1_1_0_0 none u v)
      (broadcastInDim S24x1024x1024 ![] bcast_S_S24x1024x1024 (constant S_ .f32 0x41A00000#32)))
    (broadcastInDim S24x1024x1024 ![0, 1, 2] bcast_S24x1x1024_S24x1024x1024_0_1_2
      (broadcastInDim S24x1x1024 ![0, 2] bcast_S24x1024_S24x1x1024_0_2 q))

/-- The greatest logit of each row. -/
def top (L : FVec Ideal S24x1024x1024 .f32) : FVec Ideal S24x1024 .f32 :=
  Host.reduce FloatOps.maximumf L (constant S_ .f32 0xFF800000#32) reducesTo_S24x1024x1024_S24x1024_d2 h_S_

/-- A value for each row, spread over the row's columns. -/
def spread (x : FVec Ideal S24x1024 .f32) : FVec Ideal S24x1024x1024 .f32 :=
  broadcastInDim S24x1024x1024 ![0, 1, 2] bcast_S24x1024x1_S24x1024x1024_0_1_2
    (broadcastInDim S24x1024x1 ![0, 1] bcast_S24x1024_S24x1024x1_0_1 x)

/-- The logits less their row's greatest. -/
def shifted (L : FVec Ideal S24x1024x1024 .f32) : FVec Ideal S24x1024x1024 .f32 := subf L (spread (top L))

/-- The logarithm of the sum of their exponentials. -/
def logSum (L : FVec Ideal S24x1024x1024 .f32) : FVec Ideal S24x1024 .f32 :=
  Host.log (Host.reduceAdd (Host.exp (shifted L)) (constant S_ .f32 0x00000000#32) reducesTo_S24x1024x1024_S24x1024_d2 h_S_)

/-- The row numbers, as the diagonal's gather counts them. -/
def count : IVec S1024 32 :=
  select (cmpi .slt (iotaInDim S1024 32 0) (broadcastInDim S1024 ![] bcast_S_S1024 (constantI S_ 32 0#32)))
    (addi (iotaInDim S1024 32 0) (broadcastInDim S1024 ![] bcast_S_S1024 (constantI S_ 32 1024#32))) (iotaInDim S1024 32 0)

/-- The diagonal. -/
def diagonal (L : FVec Ideal S24x1024x1024 .f32) : FVec Ideal S24x1024 .f32 :=
  Host.gather gather_S24x1024x1024_S1024x2_S24x1024_0_12_n_n_12_1_2411 L
    (concatenate S1024x2 1 [⟨S1024x1, broadcastInDim S1024x1 ![0] bcast_S1024_S1024x1_0 count⟩,
      ⟨S1024x1, broadcastInDim S1024x1 ![0] bcast_S1024_S1024x1_0 count⟩] concatenates_S1024x1_S1024x1_S1024x2_d1)

/-- A value for each row less another. -/
def less (x y : FVec Ideal S24x1024 .f32) : FVec Ideal S24x1024 .f32 := subf x y

/-- The loss of each row, laid out as it is stored. -/
def loss (x : FVec Ideal S24x1024 .f32) : FVec Ideal S24x1x1024 .f32 :=
  broadcastInDim S24x1x1024 ![0, 2] bcast_S24x1024_S24x1x1024_0_2 x

/-- The probabilities. -/
def prob (L : FVec Ideal S24x1024x1024 .f32) : FVec Ideal S24x1024x1024 .f32 := Host.exp (subf (shifted L) (spread (logSum L)))

/-- The gradient by the logits: the probabilities, less one on the diagonal. -/
def grad (L : FVec Ideal S24x1024x1024 .f32) : FVec Ideal S24x1024x1024 .f32 :=
  select (broadcastInDim S24x1024x1024 ![1, 2] bcast_S1024x1024_S24x1024x1024_1_2 eye)
    (subf (prob L) (broadcastInDim S24x1024x1024 ![] bcast_S_S24x1024x1024 (constant S_ .f32 0x3F800000#32))) (prob L)

/-- A sum times 20, rounded. -/
def times20 (x : FVec Ideal S24x1024x128 .f32) : FVec Ideal S24x1024x128 .bf16 :=
  truncf .bf16 (mulf x (broadcastInDim S24x1024x128 ![] bcast_S_S24x1024x128 (constant S_ .f32 0x41A00000#32))) bitsLt_bf16_f32

/-- The gradient by `û`, from the gradient by the logits. -/
def dU (G : FVec Ideal S24x1024x1024 .f32) (v : FVec Ideal S24x1024x128 .bf16) : FVec Ideal S24x1024x128 .bf16 :=
  times20 (Host.dotGeneral dot_S24x1024x1024_S24x1024x128_S24x1024x128_2_1_1_2_0_0 none (truncf .bf16 G bitsLt_bf16_f32) v)

/-- The gradient by `v̂`, from the gradient by the logits. -/
def dV (G : FVec Ideal S24x1024x1024 .f32) (u : FVec Ideal S24x1024x128 .bf16) : FVec Ideal S24x1024x128 .bf16 :=
  times20 (Host.dotGeneral dot_S24x1024x1024_S24x1024x128_S24x1024x128_1_1_2_2_0_0 none (truncf .bf16 G bitsLt_bf16_f32) u)

/-! ## The stretches, from any contents `W` -/

section
variable (W : (b : DevRef τ sig) → b.ty.Contents (Elt Ideal))

/-- The logits, from the contents `W`. -/
def L0 : FVec Ideal S24x1024x1024 .f32 :=
  logits (scaled (W (Proc.devRef .tc main_v0_0)) (W (Proc.devRef .tc main_arg1)))
    (scaled (W (Proc.devRef .tc main_v0_1)) (W (Proc.devRef .tc main_arg3))) (W (Proc.devRef .tc main_arg4))

theorem s0_v6 : StableHlo.after hostOps1 W (Proc.devRef .tc main_v6)
    = scaled (W (Proc.devRef .tc main_v0_0)) (W (Proc.devRef .tc main_arg1)) := by after_reads_simp; rfl
theorem s0_v12 : StableHlo.after hostOps1 W (Proc.devRef .tc main_v12)
    = scaled (W (Proc.devRef .tc main_v0_1)) (W (Proc.devRef .tc main_arg3)) := by after_reads_simp; rfl
theorem s0_v18 : StableHlo.after hostOps1 W (Proc.devRef .tc main_v18) = eye := by after_reads_simp; rfl
theorem s0_v24 : StableHlo.after hostOps1 W (Proc.devRef .tc main_v24) = L0 W := by after_reads_simp; rfl
theorem s0_v28 : StableHlo.after hostOps1 W (Proc.devRef .tc main_v28) = shifted (L0 W) := by after_reads_simp; rfl
theorem s0_v31 : StableHlo.after hostOps1 W (Proc.devRef .tc main_v31) = logSum (L0 W) := by after_reads_simp; rfl
theorem s0_v32 : StableHlo.after hostOps1 W (Proc.devRef .tc main_v32) = addf (top (L0 W)) (logSum (L0 W)) := by after_reads_simp; rfl

theorem s1_v33 : StableHlo.after hostOps1_1 W (Proc.devRef .tc main_v33) = diagonal (W (Proc.devRef .tc main_v24)) := by
  after_results
  rfl

theorem s2_v34 : StableHlo.after hostOps1_2 W (Proc.devRef .tc main_v34)
    = less (W (Proc.devRef .tc main_v32)) (W (Proc.devRef .tc main_v33)) := by after_reads_simp; rfl
theorem s2_v38 : StableHlo.after hostOps1_2 W (Proc.devRef .tc main_v38)
    = Host.exp (subf (W (Proc.devRef .tc main_v28)) (spread (W (Proc.devRef .tc main_v31)))) := by after_reads_simp; rfl
theorem s2_v40 : StableHlo.after hostOps1_2 W (Proc.devRef .tc main_v40)
    = subf (Host.exp (subf (W (Proc.devRef .tc main_v28)) (spread (W (Proc.devRef .tc main_v31)))))
      (broadcastInDim S24x1024x1024 ![] bcast_S_S24x1024x1024 (constant S_ .f32 0x3F800000#32)) := by after_reads_simp; rfl

theorem s3_v41 : StableHlo.after hostOps1_3 W (Proc.devRef .tc main_v41)
    = select (broadcastInDim S24x1024x1024 ![1, 2] bcast_S1024x1024_S24x1024x1024_1_2 (W (Proc.devRef .tc main_v18)))
      (W (Proc.devRef .tc main_v40)) (W (Proc.devRef .tc main_v38) : FVec Ideal S24x1024x1024 .f32) := by after_results; rfl

theorem s4_v46 : StableHlo.after hostOps1_4 W (Proc.devRef .tc main_v46)
    = dU (W (Proc.devRef .tc main_v41)) (W (Proc.devRef .tc main_v12)) := by after_reads_simp; rfl
theorem s4_v50 : StableHlo.after hostOps1_4 W (Proc.devRef .tc main_v50)
    = dV (W (Proc.devRef .tc main_v41)) (W (Proc.devRef .tc main_v6)) := by after_reads_simp; rfl
theorem s4_v51 : StableHlo.after hostOps1_4 W (Proc.devRef .tc main_v51)
    = loss (W (Proc.devRef .tc main_v34)) := by after_reads_simp; rfl

/-! ## The five stretches in order -/

/-- The contents after all of them. -/
abbrev after : (b : DevRef τ sig) → b.ty.Contents (Elt Ideal) :=
  StableHlo.after hostOps1_4 (StableHlo.after hostOps1_3 (StableHlo.after hostOps1_2 (StableHlo.after hostOps1_1 (StableHlo.after hostOps1 W))))

/-- The gradient by the logits. -/
theorem v41 : StableHlo.after hostOps1_3 (StableHlo.after hostOps1_2 (StableHlo.after hostOps1_1 (StableHlo.after hostOps1 W)))
    (Proc.devRef .tc main_v41) = grad (L0 W) := by
  rw [s3_v41, s2_v38, s2_v40, StableHlo.after_of_writes_sub (r := main_v18) hostOps1_2 _ hostOps1_2_writes (by decide +kernel),
    StableHlo.after_of_writes_sub (r := main_v18) hostOps1_1 _ hostOps1_1_writes (by decide +kernel),
    StableHlo.after_of_writes_sub (r := main_v28) hostOps1_1 _ hostOps1_1_writes (by decide +kernel),
    StableHlo.after_of_writes_sub (r := main_v31) hostOps1_1 _ hostOps1_1_writes (by decide +kernel), s0_v18, s0_v28, s0_v31]
  rfl

/-- A buffer that only the first stretch writes ends as it left it. -/
theorem keep (r : Ref sig .tc) (h1 : r ∉ hostOps1_1_W) (h2 : r ∉ hostOps1_2_W) (h3 : r ∉ hostOps1_3_W) :
    StableHlo.after hostOps1_3 (StableHlo.after hostOps1_2 (StableHlo.after hostOps1_1 (StableHlo.after hostOps1 W)))
      (Proc.devRef .tc r) = StableHlo.after hostOps1 W (Proc.devRef .tc r) := by
  rw [StableHlo.after_of_writes_sub (r := r) hostOps1_3 _ hostOps1_3_writes h3,
    StableHlo.after_of_writes_sub (r := r) hostOps1_2 _ hostOps1_2_writes h2,
    StableHlo.after_of_writes_sub (r := r) hostOps1_1 _ hostOps1_1_writes h1]

/-- The losses. -/
theorem v51 : after W (Proc.devRef .tc main_v51) = loss (less (addf (top (L0 W)) (logSum (L0 W))) (diagonal (L0 W))) := by
  unfold after
  rw [s4_v51, StableHlo.after_of_writes_sub (r := main_v34) hostOps1_3 _ hostOps1_3_writes (by decide +kernel), s2_v34, s1_v33,
    StableHlo.after_of_writes_sub (r := main_v32) hostOps1_1 _ hostOps1_1_writes (by decide +kernel), s0_v32, s0_v24]

/-- The gradients by `û`. -/
theorem v46 : after W (Proc.devRef .tc main_v46)
    = dU (grad (L0 W)) (scaled (W (Proc.devRef .tc main_v0_1)) (W (Proc.devRef .tc main_arg3))) := by
  unfold after
  rw [s4_v46, v41, keep W main_v12 (by decide +kernel) (by decide +kernel) (by decide +kernel), s0_v12]

/-- The gradients by `v̂`. -/
theorem v50 : after W (Proc.devRef .tc main_v50)
    = dV (grad (L0 W)) (scaled (W (Proc.devRef .tc main_v0_0)) (W (Proc.devRef .tc main_arg1))) := by
  unfold after
  rw [s4_v50, v41, keep W main_v6 (by decide +kernel) (by decide +kernel) (by decide +kernel), s0_v6]

end

end Cert.ReferenceIdeal.Host

end
-- ==== Proof.RefDiagonal.lean ====
/- The diagonal of the reference's logits: its host lines gather it by the row numbers, counted twice. -/
module

public import proofs.«01_k».proof.Proof.RefHost
public import Idealize.ShloMosaic.Lib.StableHlo.Predicate

@[expose] public section

noncomputable section

namespace Cert.ReferenceIdeal.Host

open Cert.ReferenceIdeal Cert.ReferenceIdeal.Gen Idealize.ShloMosaic Idealize.ShloMosaic.TcCoe Idealize.SL.Sem

/-- The gather's dimension numbers. -/
abbrev G := gather_S24x1024x1024_S1024x2_S24x1024_0_12_n_n_12_1_2411

/-- The component `k` of the start index of the result's `(b, i)` lies at `(i, k)`. -/
theorem siIdx_eq (b : Fin 24) (i : Fin 1024) (k : Fin 2) : G.siIdx (ix2 b i) k = ix2 i k := by
  have e1 : ∀ X : Fin 2, X = 1 → (ix2 b i X).val = i.val := fun X h => by subst h; rfl
  have hk : ∀ k ∈ G.batchDims, k = (1 : Fin 2) := by decide
  funext a
  apply Fin.ext
  match a with
  | ⟨0, _⟩ =>
    unfold GatherDims.siIdx
    rw [dif_neg (by exact (by decide : ¬(0 : Fin 2).val = G.indexVectorDim))]
    unfold GatherDims.siCoord
    simp only [Fin.val_cast]
    exact e1 _ (hk _ (List.getElem_mem _))
  | ⟨1, _⟩ =>
    unfold GatherDims.siIdx
    rw [dif_pos (by exact (by decide : (1 : Fin 2).val = G.indexVectorDim))]
    rfl

/-- Where the start indices hold `i` on both components of row `i`, the gather reads the diagonal. -/
theorem gather_apply (L : FVec Ideal S24x1024x1024 .f32) (idx : IVec S1024x2 32) (b : Fin 24) (i : Fin 1024)
    (h : ∀ k, idx (ix2 i k) = BitVec.ofNat 32 i) : Host.gather G L idx (ix2 b i) = L (ix3 b i i) := by
  unfold Host.gather
  refine congrArg L (funext fun a => Fin.ext ?_)
  have e0 : ∀ X : Fin 2, X = 0 → (ix2 b i X).val = b.val := fun X h => by subst h; rfl
  have hoff : ∀ k ∈ G.offsetDims, k = (0 : Fin 2) := by decide
  have hstart : ∀ (a : Fin 3), a ∈ G.startIndexMap → G.sliceSizes a = 1 → (S24x1024x1024.size a) = 1024 → G.start (ix2 b i) idx a = i.val := by
    intro a hm hs hz
    have := i.isLt
    unfold GatherDims.start
    rw [dif_pos hm, hs, hz]
    erw [siIdx_eq b i, h]
    rw [StableHlo.Predicate.toInt_ofNat_small _ (by omega)]
    omega
  show G.start (ix2 b i) idx a + G.batchCoord (ix2 b i) a + G.offCoord (ix2 b i) a = _
  rw [G.batchCoord_eq_zero _ _ List.not_mem_nil]
  match a with
  | ⟨0, _⟩ =>
    unfold GatherDims.start GatherDims.offCoord
    rw [dif_neg (by exact (by decide : (0 : Fin 3) ∉ G.startIndexMap)),
      dif_pos (by exact (by decide : (0 : Fin 3) ∈ G.sKept)), Nat.zero_add]
    exact e0 _ (hoff _ (List.getElem_mem _))
  | ⟨1, _⟩ =>
    rw [hstart _ (by exact (by decide : (1 : Fin 3) ∈ G.startIndexMap)) rfl rfl,
      G.offCoord_eq_zero _ _ (by exact (by decide : (1 : Fin 3) ∉ G.sKept))]
    rfl
  | ⟨2, _⟩ =>
    rw [hstart _ (by exact (by decide : (2 : Fin 3) ∈ G.startIndexMap)) rfl rfl,
      G.offCoord_eq_zero _ _ (by exact (by decide : (2 : Fin 3) ∉ G.sKept))]
    rfl

/-- The row numbers are counted as they are: none is negative. -/
theorem count_apply (i : Fin 1024) : count (ix1 i) = BitVec.ofNat 32 i := by
  have hi := i.isLt
  have hs : ∀ x y : BitVec 32, Scalar.select (IntOp.cmpi .slt (BitVec.ofNat 32 (i : ℕ)) 0#32) x y = y := by
    intro x y
    have : (BitVec.ofNat 32 (i : ℕ)).slt 0#32 = false := by
      rw [BitVec.slt, StableHlo.Predicate.toInt_ofNat_small _ (by omega)]
      simp
    simp [Scalar.select, IntOp.cmpi, this]
  pointwise [count]
  exact hs _ _

/-- The gathered diagonal is the diagonal. -/
theorem diagonal_apply (L : FVec Ideal S24x1024x1024 .f32) (b : Fin 24) (i : Fin 1024) :
    diagonal L (ix2 b i) = L (ix3 b i i) := by
  unfold diagonal
  refine gather_apply L _ b i fun k => ?_
  have hc := count_apply i
  generalize count = w at hc ⊢
  match k with
  | ⟨0, _⟩ => pointwise; exact hc
  | ⟨1, _⟩ => pointwise; exact hc

end Cert.ReferenceIdeal.Host

end
-- ==== Proof.RefValue.lean ====
/- The reference's host lines (RefHost.lean), read at an index and named by the mathematics of a row (RowMath.lean). -/
module

public import proofs.«01_k».proof.Proof.RefDiagonal
public import proofs.«01_k».proof.Proof.RowMath
public import proofs.«01_k».proof.Proof.Consts
public import proofs.«01_k».proof.Proof.Entry

@[expose] public section

noncomputable section

namespace Cert.ReferenceIdeal.Host

open Cert.ReferenceIdeal Cert.ReferenceIdeal.Gen Idealize.ShloMosaic Idealize.ShloMosaic.TcCoe Idealize.SL.Sem

theorem scaled_apply (x : FVec Ideal S24x1024x128 .bf16) (s : FVec Ideal S24x1024x4 .f32) (b : Fin 24) (i : Fin 1024) (d : Fin 128) :
    scaled x s (ix3 b i d) = Cert.Entry.emb x s b i d := by
  pointwise [scaled]
  rfl

theorem logits_apply (u v : FVec Ideal S24x1024x128 .bf16) (q : FVec Ideal S24x1024 .f32) (b : Fin 24) (i j : Fin 1024) :
    logits u v q (ix3 b i j)
      = Cert.Row.logit (fun i d => u (ix3 b i d)) (fun j d => v (ix3 b j d)) (Cert.Entry.freq q b) i j := by
  pointwise [logits]
  rw [Cert.Consts.twenty]
  rfl

/-- The loss is laid out with a row of one. -/
theorem lay_apply (x : FVec Ideal S24x1024 .f32) (b : Fin 24) (i : Fin 1024) : loss x (ix3 b 0 i) = x (ix2 b i) := by
  pointwise [loss]

/-- One value less another, added to a third, at an index. -/
theorem less_apply (x y z : FVec Ideal S24x1024 .f32) (a : S24x1024.Idx) : less (addf x y) z a = (x a + y a) - z a := rfl

section
variable (L : FVec Ideal S24x1024x1024 .f32) (b : Fin 24) (U V : Fin 1024 → Fin 128 → EReal) (q : Fin 1024 → EReal)
  (hL : ∀ i j, L (ix3 b i j) = Cert.Row.logit U V q i j)
include hL

theorem top_apply (i : Fin 1024) : top L (ix2 b i) = Cert.Row.top U V q i := by
  pointwise [top]
  simp only [hL, Cert.Consts.neg_inf]
  rfl

theorem shifted_apply (i j : Fin 1024) : shifted L (ix3 b i j) = Cert.Row.logit U V q i j - Cert.Row.top U V q i := by
  unfold shifted spread
  pointwise
  rw [hL, top_apply L b U V q hL]

theorem logSum_apply (i : Fin 1024) : logSum L (ix2 b i) = Ideal.log (Cert.Row.mass U V q i) := by
  unfold logSum
  pointwise
  simp only [shifted_apply L b U V q hL]
  unfold Cert.Row.mass
  with_reducible rfl

theorem loss_apply (i : Fin 1024) : loss (less (addf (top L) (logSum L)) (diagonal L)) (ix3 b 0 i) = Cert.Row.loss U V q i := by
  rw [lay_apply, less_apply, top_apply L b U V q hL, logSum_apply L b U V q hL, diagonal_apply, hL]
  unfold Cert.Row.loss
  with_reducible rfl

theorem prob_apply (i j : Fin 1024) : prob L (ix3 b i j) = Cert.Row.prob U V q i j := by
  unfold prob spread
  pointwise
  rw [shifted_apply L b U V q hL, logSum_apply L b U V q hL]
  rfl

theorem grad_apply (i j : Fin 1024) : grad L (ix3 b i j) = Cert.Row.grad U V q i j := by
  unfold grad
  pointwise [eye]
  rw [prob_apply L b U V q hL]
  rw [Cert.Consts.select_eq _ _ (by omega) (by omega)]
  unfold Cert.Row.grad
  exact if_congr Fin.ext_iff.symm rfl rfl

theorem dU_apply (v : FVec Ideal S24x1024x128 .bf16) (hv : ∀ j d, v (ix3 b j d) = V j d) (i : Fin 1024) (d : Fin 128) :
    dU (grad L) v (ix3 b i d) = Cert.Row.dU U V q i d := by
  unfold dU times20
  pointwise
  simp only [Cert.Consts.twenty, grad_apply L b U V q hL, hv]
  rfl

theorem dV_apply (u : FVec Ideal S24x1024x128 .bf16) (hu : ∀ i d, u (ix3 b i d) = U i d) (j : Fin 1024) (d : Fin 128) :
    dV (grad L) u (ix3 b j d) = Cert.Row.dV U V q j d := by
  unfold dV times20
  pointwise
  simp only [Cert.Consts.twenty, grad_apply L b U V q hL, hu]
  rfl

end

end Cert.ReferenceIdeal.Host

end
-- ==== Proof.RefArray.lean ====
/- What the reference leaves in its three result buffers, from its arguments as launched: the region widens the two code
   arrays, and the host lines after it compute each batch entry's loss and gradients. -/
module

public import proofs.«01_k».proof.Proof.RefValue
public import Idealize.ShloMosaic.Lib.Pipeline.ValueKit.Basic
public import Idealize.ShloMosaic.Lib.Pipeline.ValueKit.Geometry

@[expose] public section

noncomputable section

namespace Cert.ReferenceIdeal.Array

open Cert.ReferenceIdeal Cert.ReferenceIdeal.Gen Idealize.ShloMosaic Idealize.ShloMosaic.TcCoe Idealize.SL.Sem
open Cert.ReferenceIdeal.Host

variable (m : (ℓ : Loc nD τ sig) → Buf (Elt Ideal) ℓ) (c : Dev nD)

/-! ## The arguments' batch entries, as launched -/

/-- The embeddings `û`. -/
abbrev U (b : Fin 24) : Fin 1024 → Fin 128 → EReal :=
  Cert.Entry.emb (m ((c : Thread nD τ).loc main_arg0)) (m ((c : Thread nD τ).loc main_arg1)) b

/-- The embeddings `v̂`. -/
abbrev V' (b : Fin 24) : Fin 1024 → Fin 128 → EReal :=
  Cert.Entry.emb (m ((c : Thread nD τ).loc main_arg2)) (m ((c : Thread nD τ).loc main_arg3)) b

/-- The log-frequencies. -/
abbrev q (b : Fin 24) : Fin 1024 → EReal := Cert.Entry.freq (m ((c : Thread nD τ).loc main_arg4)) b

/-! ## The region: each code array, widened -/

/-- The region's one point. -/
def t0 : Fin cfg0.N := ⟨0, by decide⟩

/-- The first input's block is its argument. -/
theorem blk0 (j : S24x1024x128.Idx) :
    iblk m c 0 t0 j = (m ((c : Thread nD τ).loc main_arg0) : Vec Ideal S24x1024x128 .fp8e4m3) j := by
  refine Eq.trans (congrArg (V m c main_arg0) (funext fun a => Fin.ext ?_)) (congrFun (V_main_arg0 m c) j)
  exact win0_0.rect_emb_val_of_index_zero t0 a rfl j

/-- The second input's block is its argument. -/
theorem blk1 (j : S24x1024x128.Idx) :
    iblk m c 1 t0 j = (m ((c : Thread nD τ).loc main_arg2) : Vec Ideal S24x1024x128 .fp8e4m3) j := by
  refine Eq.trans (congrArg (V m c main_arg2) (funext fun a => Fin.ext ?_)) (congrFun (V_main_arg2 m c) j)
  exact win0_1.rect_emb_val_of_index_zero t0 a rfl j

/-- The body leaves the first block widened, with its values, -/
theorem out2 (x y : Vec Ideal S24x1024x128 .fp8e4m3) (j : S24x1024x128.Idx) : out0_2 x y j = x j := by
  unfold out0_2
  rw [View.canon_cons_unit_lit _ _ _ (by decide), View.ld_unit_lit _ _ (by decide)]
  rfl

/-- and the second. -/
theorem out3 (x y : Vec Ideal S24x1024x128 .fp8e4m3) (j : S24x1024x128.Idx) : out0_3 x y j = y j := by
  unfold out0_3
  rw [View.canon_cons_unit_lit _ _ _ (by decide), View.ld_unit_lit _ _ (by decide)]
  rfl

theorem whole2 : (cfg0.win 2).WholeAt t0 := by decide +kernel
theorem whole3 : (cfg0.win 3).WholeAt t0 := by decide +kernel

/-- The first output array holds the first argument's values. -/
theorem codes2 (j : S24x1024x128.Idx) :
    (dats m 0 c).arrAt 2 cfg0.N j = (m ((c : Thread nD τ).loc main_arg0) : Vec Ideal S24x1024x128 .fp8e4m3) j :=
  ((dats m 0 c).arrAt_emb_eq_after_last 2 t0 whole2 j).trans
    ((congrFun (after0_2 m c t0) j).trans ((out2 _ _ j).trans (blk0 m c j)))

/-- The second output array holds the third argument's values. -/
theorem codes3 (j : S24x1024x128.Idx) :
    (dats m 0 c).arrAt 3 cfg0.N j = (m ((c : Thread nD τ).loc main_arg2) : Vec Ideal S24x1024x128 .fp8e4m3) j :=
  ((dats m 0 c).arrAt_emb_eq_after_last 3 t0 whole3 j).trans
    ((congrFun (after0_3 m c t0) j).trans ((out3 _ _ j).trans (blk1 m c j)))

/-! ## The buffers the host lines start from -/

/-- The buffers as the region leaves them. -/
abbrev W : Valuation τ sig (Elt Ideal) := Pipeline.withArrays spec0 c (V0 m c) fun w => (dats m 0 c).arrAt w cfg0.N

/-- Where the program reads a buffer at its end, it is after the five stretches of host lines. -/
theorem tail_eq (r : Ref sig .tc) :
    Pipeline.afterTail₀ cfgs (dats m) 0 (V0 m) [hostOps1, hostOps1_1, hostOps1_2, hostOps1_3, hostOps1_4] c r
      = Host.after (W m c) (Proc.devRef .tc r) := by
  unfold Pipeline.afterTail₀
  rw [List.flatten_cons, List.flatten_cons, List.flatten_cons, List.flatten_cons, List.flatten_cons, List.flatten_nil,
    List.append_nil, StableHlo.after_append, StableHlo.after_append, StableHlo.after_append, StableHlo.after_append]

/-- The region's arrays are distinct buffers. -/
theorem arr_inj : Function.Injective (Pipeline.arrRef spec0) := by decide +kernel

theorem W_v0_0 : W m c (Proc.devRef .tc main_v0_0) = (dats m 0 c).arrAt 2 cfg0.N :=
  Pipeline.withArrays_arr spec0 arr_inj c (V0 m c) (fun w => (dats m 0 c).arrAt w cfg0.N) 2

theorem W_v0_1 : W m c (Proc.devRef .tc main_v0_1) = (dats m 0 c).arrAt 3 cfg0.N :=
  Pipeline.withArrays_arr spec0 arr_inj c (V0 m c) (fun w => (dats m 0 c).arrAt w cfg0.N) 3

theorem W_arg1 : W m c (Proc.devRef .tc main_arg1) = m ((c : Thread nD τ).loc main_arg1) :=
  Pipeline.withArrays_of_ne _ c (V0 m c) _ main_arg1 (by decide)

theorem W_arg3 : W m c (Proc.devRef .tc main_arg3) = m ((c : Thread nD τ).loc main_arg3) :=
  Pipeline.withArrays_of_ne _ c (V0 m c) _ main_arg3 (by decide)

theorem W_arg4 : W m c (Proc.devRef .tc main_arg4) = m ((c : Thread nD τ).loc main_arg4) :=
  Pipeline.withArrays_of_ne _ c (V0 m c) _ main_arg4 (by decide)

/-! ## The values -/

/-- The scaled codes are the embeddings `û`. -/
theorem u_apply (b : Fin 24) (i : Fin 1024) (d : Fin 128) :
    scaled (W m c (Proc.devRef .tc main_v0_0)) (W m c (Proc.devRef .tc main_arg1)) (ix3 b i d) = U m c b i d := by
  rw [scaled_apply, W_arg1, W_v0_0]
  exact congrArg (· * _) (codes2 m c (ix3 b i d))

/-- The scaled codes are the embeddings `v̂`. -/
theorem v_apply (b : Fin 24) (i : Fin 1024) (d : Fin 128) :
    scaled (W m c (Proc.devRef .tc main_v0_1)) (W m c (Proc.devRef .tc main_arg3)) (ix3 b i d) = V' m c b i d := by
  rw [scaled_apply, W_arg3, W_v0_1]
  exact congrArg (· * _) (codes3 m c (ix3 b i d))

/-- The logits are those of the embeddings. -/
theorem logit_apply (b : Fin 24) (i j : Fin 1024) :
    L0 (W m c) (ix3 b i j) = Cert.Row.logit (U m c b) (V' m c b) (q m c b) i j := by
  unfold L0
  rw [logits_apply, W_arg4, show (fun i d => scaled (W m c (Proc.devRef .tc main_v0_0)) (W m c (Proc.devRef .tc main_arg1)) (ix3 b i d)) = U m c b
      from funext fun i => funext fun d => u_apply m c b i d,
    show (fun i d => scaled (W m c (Proc.devRef .tc main_v0_1)) (W m c (Proc.devRef .tc main_arg3)) (ix3 b i d)) = V' m c b
      from funext fun i => funext fun d => v_apply m c b i d]

/-- The loss. -/
theorem loss_apply (b : Fin 24) (i : Fin 1024) :
    Host.after (W m c) (Proc.devRef .tc main_v51) (ix3 b 0 i) = Cert.Row.loss (U m c b) (V' m c b) (q m c b) i := by
  rw [v51]
  exact Host.loss_apply _ b _ _ _ (logit_apply m c b) i

/-- The gradient by `û`. -/
theorem dU_apply (b : Fin 24) (i : Fin 1024) (d : Fin 128) :
    Host.after (W m c) (Proc.devRef .tc main_v46) (ix3 b i d) = Cert.Row.dU (U m c b) (V' m c b) (q m c b) i d := by
  rw [v46]
  exact Host.dU_apply _ b _ _ _ (logit_apply m c b) _ (v_apply m c b) i d

/-- The gradient by `v̂`. -/
theorem dV_apply (b : Fin 24) (j : Fin 1024) (d : Fin 128) :
    Host.after (W m c) (Proc.devRef .tc main_v50) (ix3 b j d) = Cert.Row.dV (U m c b) (V' m c b) (q m c b) j d := by
  rw [v50]
  exact Host.dV_apply _ b _ _ _ (logit_apply m c b) _ (u_apply m c b) j d

/-! ## The run -/

/-- The reference ends with its three result buffers as the host lines leave them and its arguments as launched. -/
theorem run (ρ : Dev nD → PrngReg) : θ_run defs (onTc (τ := τ) (main (F := Ideal))) ⟨m, fun _ => 0, ρ⟩ fun r => ∀ c : Dev nD,
      r.2.mem ((c.tc : Thread nD τ).loc main_v51) = Host.after (W m c) (Proc.devRef .tc main_v51)
      ∧ r.2.mem ((c.tc : Thread nD τ).loc main_v46) = Host.after (W m c) (Proc.devRef .tc main_v46)
      ∧ r.2.mem ((c.tc : Thread nD τ).loc main_v50) = Host.after (W m c) (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v51 (Pipeline.mem_restRefs_of main_v51 (by decide) (by decide))).trans (tail_eq m c main_v51),
        ((h c).2 main_v46 (Pipeline.mem_restRefs_of main_v46 (by decide) (by decide))).trans (tail_eq m c main_v46),
        ((h c).2 main_v50 (Pipeline.mem_restRefs_of main_v50 (by decide) (by decide))).trans (tail_eq m c main_v50),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).1 1).trans (((dats m 0 c).arrAt_in 1 rfl _).trans ((A_eq m c 1).trans (V_main_arg2 m c))),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c)⟩)
    (run_main m ρ)

end Cert.ReferenceIdeal.Array

end
-- ==== Proof.Equation.lean ====
/- The equation: from equal arguments the kernel's result arrays and the reference's result buffers are equal, element by
   element, each being the mathematics of a row (RowMath.lean) of the argument arrays' batch entries. -/
module

public import proofs.«01_k».proof.Proof.KernelArray
public import proofs.«01_k».proof.Proof.RefArray

@[expose] public section

noncomputable section

namespace Cert.Equation

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs' arguments are equal on device `c`. -/
abbrev SameArgs : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable (h : SameArgs m m' c) (hq : ∀ b j, Cert.KernelIdeal.Array.q m c b j ≠ ⊥)
include h

/-- The embeddings `û` are equal, -/
theorem U_eq (b : Fin 24) : Cert.ReferenceIdeal.Array.U m' c b = Cert.KernelIdeal.Array.U m c b :=
  congrArg₂ (fun x s => Cert.Entry.emb x s b) h.1 h.2.1

/-- the embeddings `v̂`, -/
theorem V_eq (b : Fin 24) : Cert.ReferenceIdeal.Array.V' m' c b = Cert.KernelIdeal.Array.V' m c b :=
  congrArg₂ (fun x s => Cert.Entry.emb x s b) h.2.2.1 h.2.2.2.1

/-- and the log-frequencies. -/
theorem q_eq (b : Fin 24) : Cert.ReferenceIdeal.Array.q m' c b = Cert.KernelIdeal.Array.q m c b :=
  congrArg (fun x => Cert.Entry.freq x b) h.2.2.2.2

include hq

/-- The losses are equal. -/
theorem loss_eq : Cert.ReferenceIdeal.Host.after (Cert.ReferenceIdeal.Array.W m' c) (Proc.devRef .tc Cert.ReferenceIdeal.main_v51)
    = (Cert.KernelIdeal.Gen.dats m 0 c).arrAt 5 Cert.KernelIdeal.cfg0.N := by
  refine funext fun (x : Cert.KernelIdeal.S24x1x1024.Idx) => ?_
  obtain ⟨b, o, i, rfl⟩ : ∃ b o i, x = ix3 b o i := ⟨_, _, _, eq_ix3 x⟩
  obtain rfl : o = 0 := Subsingleton.elim _ _
  refine (Cert.ReferenceIdeal.Array.loss_apply m' c b i).trans (Eq.trans ?_ (Cert.KernelIdeal.Array.loss_apply m c hq b i).symm)
  rw [U_eq m m' c h, V_eq m m' c h, q_eq m m' c h]

/-- The gradients by `û` are equal. -/
theorem dU_eq : Cert.ReferenceIdeal.Host.after (Cert.ReferenceIdeal.Array.W m' c) (Proc.devRef .tc Cert.ReferenceIdeal.main_v46)
    = (Cert.KernelIdeal.Gen.dats m 0 c).arrAt 6 Cert.KernelIdeal.cfg0.N := by
  refine funext fun (x : Cert.KernelIdeal.S24x1024x128.Idx) => ?_
  obtain ⟨b, i, d, rfl⟩ : ∃ b i d, x = ix3 b i d := ⟨_, _, _, eq_ix3 x⟩
  refine (Cert.ReferenceIdeal.Array.dU_apply m' c b i d).trans (Eq.trans ?_ (Cert.KernelIdeal.Array.dU_apply m c hq b i d).symm)
  rw [U_eq m m' c h, V_eq m m' c h, q_eq m m' c h]

/-- The gradients by `v̂` are equal. -/
theorem dV_eq : Cert.ReferenceIdeal.Host.after (Cert.ReferenceIdeal.Array.W m' c) (Proc.devRef .tc Cert.ReferenceIdeal.main_v50)
    = (Cert.KernelIdeal.Gen.dats m 0 c).arrAt 7 Cert.KernelIdeal.cfg0.N := by
  refine funext fun (x : Cert.KernelIdeal.S24x1024x128.Idx) => ?_
  obtain ⟨b, j, d, rfl⟩ : ∃ b j d, x = ix3 b j d := ⟨_, _, _, eq_ix3 x⟩
  refine (Cert.ReferenceIdeal.Array.dV_apply m' c b j d).trans (Eq.trans ?_ (Cert.KernelIdeal.Array.dV_apply m c hq b j d).symm)
  rw [U_eq m m' c h, V_eq m m' c h, q_eq m m' c h]

end Cert.Equation

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Frame
public import proofs.«01_k».proof.Proof.Gen.Pre_positive_q
public import proofs.«01_k».proof.Proof.Precondition
public import proofs.«01_k».proof.Proof.Equation
public import Idealize.ShloMosaic.Adequacy
public import Idealize.ShloMosaic.Init

@[expose] public section

noncomputable section

namespace Cert.Proof

open Idealize.ShloMosaic Idealize.SL.Sem

/-- The two named constants stand for the reals the kernel computed them from. -/
theorem preserves : Cert.preserves_Kernel_KernelIdeal :=
  ⟨IdealRules.named_const.statement Cert.KernelIdeal.κ "neg_tau" .f32 0xBD4CCCCD#32 ((-(20⁻¹) : ℝ) : EReal) rfl,
    IdealRules.named_const.statement Cert.KernelIdeal.κ "exp2_scale" .f32 0x41E6D4CA#32
      ((20 * (Real.log 2)⁻¹ : ℝ) : EReal) rfl⟩

/-- Where no log-frequency is `-inf`, the kernel's results are the reference's: the values both end with are the kernel's
    three result arrays. -/
theorem algebraic : Cert.algebraic_KernelIdeal_ReferenceIdeal_pre_positive_q := by
  intro m g m' g' hpre hargs
  have hq : ∀ c b j, Cert.KernelIdeal.Array.q m c b j ≠ ⊥ := fun c b j =>
    Cert.Precondition.freq_ne_bot _ _ _ _ _ (hpre c) b j
  refine ⟨fun c => (Cert.KernelIdeal.Gen.dats m 0 c).arrAt 5 Cert.KernelIdeal.cfg0.N,
    fun c => (Cert.KernelIdeal.Gen.dats m 0 c).arrAt 6 Cert.KernelIdeal.cfg0.N,
    fun c => (Cert.KernelIdeal.Gen.dats m 0 c).arrAt 7 Cert.KernelIdeal.cfg0.N,
    Cert.KernelIdeal.Value.run_blocks m g, ?_⟩
  refine (θ_run _ _ _).mono (fun r h c => ?_) (Cert.ReferenceIdeal.Array.run m' g')
  obtain ⟨h0, h1, h2, hkept⟩ := h c
  exact ⟨h0.trans (Cert.Equation.loss_eq m m' c (hargs c) (hq c)), h1.trans (Cert.Equation.dU_eq m m' c (hargs c) (hq c)),
    h2.trans (Cert.Equation.dV_eq m m' c (hargs c) (hq c)), hkept⟩

theorem claim : Cert.Claim :=
  ⟨Cert.Kernel.Gen.facts, Cert.KernelIdeal.Gen.facts, Cert.ReferenceIdeal.Gen.facts, Cert.Pre_positive_q.Gen.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, preserves, algebraic⟩

end Cert.Proof

end
